-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x256 : Shape := ⟨3, ![16, 1024, 256]⟩
abbrev S8192x256 : Shape := ⟨2, ![8192, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S256x8192 : Shape := ⟨2, ![256, 8192]⟩
abbrev S16384x8192 : Shape := ⟨2, ![16384, 8192]⟩
abbrev S1x8192 : Shape := ⟨2, ![1, 8192]⟩
abbrev S16x1024 : Shape := ⟨2, ![16, 1024]⟩
abbrev S1x1 : Shape := ⟨2, ![1, 1]⟩
abbrev S1024 : Shape := ⟨1, ![1024]⟩
abbrev S1024x256 : Shape := ⟨2, ![1024, 256]⟩
abbrev S1024x1024 : Shape := ⟨2, ![1024, 1024]⟩
abbrev S1024x1 : Shape := ⟨2, ![1024, 1]⟩
abbrev S1x1024x256 : Shape := ⟨3, ![1, 1024, 256]⟩
abbrev S1 : Shape := ⟨1, ![1]⟩
abbrev S1x1x1 : Shape := ⟨3, ![1, 1, 1]⟩

abbrev nBuf : Space → Nat
  | .hbm => 36
  | .vmem => 8
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S256x8192, .f32⟩
  | .hbm, ⟨11, _⟩ => ⟨S16384x8192, .f32⟩
  | .hbm, ⟨12, _⟩ => ⟨S1x8192, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16x1024, .i32⟩
  | .hbm, ⟨26, _⟩ => ⟨S16384, .f32⟩
  | .hbm, ⟨27, _⟩ => ⟨S8192x256, .bf16⟩
  | .hbm, ⟨28, _⟩ => ⟨S16384x256, .f32⟩
  | .hbm, ⟨29, _⟩ => ⟨S1x1, .f32⟩
  | .hbm, ⟨30, _⟩ => ⟨S16x1024x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_22 : BitVec 32 := 0#32
  let v126 : BitVec 1 := Scalar.cmpi .eq arg0 c0_i32_22
  let v127 : BitVec 32 := Scalar.extui v126
  let c0_i32_23 : BitVec 32 := 0#32
  let v128 : BitVec 1 := Scalar.cmpi .ne v127 c0_i32_23
  v128

def k0_cond2 (i : grid0.Coords) : BitVec 1 :=
  let arg0 : BitVec 32 := BitVec.ofNat 32 (i 0).val
  let c0_i32_24 : BitVec 32 := 0#32
  let v129 : BitVec 1 := Scalar.cmpi .sgt arg0 c0_i32_24
  let v130 : BitVec 32 := Scalar.extui v129
  let c0_i32_25 : BitVec 32 := 0#32
  let v131 : BitVec 1 := Scalar.cmpi .ne v130 c0_i32_25
  v131

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x1024x256 : Shape := ⟨3, ![16, 1024, 256]⟩
abbrev S8192x256 : Shape := ⟨2, ![8192, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S256x8192 : Shape := ⟨2, ![256, 8192]⟩
abbrev S16384x8192 : Shape := ⟨2, ![16384, 8192]⟩
abbrev S1x8192 : Shape := ⟨2, ![1, 8192]⟩
abbrev S1 : Shape := ⟨1, ![1]⟩
abbrev S1x1 : Shape := ⟨2, ![1, 1]⟩
abbrev S16x1024 : Shape := ⟨2, ![16, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S256x8192, .f32⟩
  | .hbm, ⟨11, _⟩ => ⟨S16384x8192, .f32⟩
  | .hbm, ⟨12, _⟩ => ⟨S1x8192, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x256, .f32⟩
  | .hbm, ⟨44, _⟩ => ⟨S16384x256, .i1⟩
  | .hbm, ⟨45, _⟩ => ⟨S_, .f32⟩
  | .hbm, ⟨46, _⟩ => ⟨S16384x256, .f32⟩
  | .hbm, ⟨47, _⟩ => ⟨S16384x256, .f32⟩
  | .hbm, ⟨48, _⟩ => ⟨S16x1024x256, .f32⟩
  | .hbm, ⟨49, _⟩ => ⟨S16x1024, .i32⟩
  | .hbm, ⟨50, _⟩ => ⟨S16x1024x256, .f32⟩
  | .hbm, ⟨51, _⟩ => ⟨S16x1024x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1024x256, .f32⟩
  | .hbm, ⟨57, _⟩ => ⟨S16x1024x256, .f32⟩
  | .hbm, ⟨58, _⟩ => ⟨S_, .f32⟩
  | .hbm, ⟨59, _⟩ => ⟨S_, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Vq.RefOps.lean ====
/-
  The reference program as a straight line of array operations, cut in four stages: the squared distances, the
  nearest-code search, the row lookup, and the closing arithmetic.
-/
module

public import proofs.«01_k».proof.Proof.Gen.ReferenceIdeal
public import Idealize.ShloMosaic.Lib.StableHlo.Run
public import Idealize.ShloMosaic.Lib.IdealHost

@[expose] public section

noncomputable section

namespace Cert.Vq.Ref

open Cert.ReferenceIdeal Cert.ReferenceIdeal.Gen
open Idealize.ShloMosaic Idealize.ShloMosaic.TcCoe Idealize.ShloMosaic.StableHlo Idealize.SL.Sem

variable {F : FTy → Type} [FloatOps F]

/-- The stage that computes every squared distance between an input row and a code. -/
abbrev opsDist : List (HloOp τ sig (Elt F)) :=
  [ StableHlo.reshape main_arg0 main_v0 (rfl : (.f32 : EltTy) = .f32) shapeCasts_S16x1024x256_S16384x256,
    StableHlo.binary main_v0 main_v0 main_v1 (mulf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v1 main_cst main_v2 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v2 main_v3 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v4 (mulf : (⟨S8192x256, .f32⟩ : BufTy).Contents (Elt F) → (⟨S8192x256, .f32⟩ : BufTy).Contents (Elt F) → (⟨S8192x256, .f32⟩ : BufTy).Contents (Elt F)),
    StableHlo.nullary main_cst_0 (constant S_ .f32 0x00000000#32),
    StableHlo.binary main_v4 main_cst_0 main_v5 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_arg1 main_v6 ((transpose S256x8192 [1, 0] · transposes_S8192x256_S256x8192_1_0) : (⟨S8192x256, .f32⟩ : BufTy).Contents (Elt F) → (⟨S256x8192, .f32⟩ : BufTy).Contents (Elt F)),
    StableHlo.binary main_v0 main_v6 main_v7 ((fun l r => Host.dotGeneral dot_S16384x256_S256x8192_S16384x8192_1_0_0_1_n_n none l r) : (⟨S16384x256, .f32⟩ : BufTy).Contents (Elt F) → (⟨S256x8192, .f32⟩ : BufTy).Contents (Elt F) → (⟨S16384x8192, .f32⟩ : BufTy).Contents (Elt F)),
    StableHlo.unary main_v5 main_v8 (broadcastInDim S1x8192 ![1] bcast_S8192_S1x8192_1 : (⟨S8192, .f32⟩ : BufTy).Contents (Elt F) → (⟨S1x8192, .f32⟩ : BufTy).Contents (Elt F)),
    StableHlo.unary main_v3 main_v9 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v8 main_v10 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v9 main_v10 main_v11 (addf : (⟨S16384x8192, .f32⟩ : BufTy).Contents (Elt F) → (⟨S16384x8192, .f32⟩ : BufTy).Contents (Elt F) → (⟨S16384x8192, .f32⟩ : BufTy).Contents (Elt F)),
    StableHlo.nullary main_cst_1 (constant S_ .f32 0x40000000#32),
    StableHlo.unary main_cst_1 main_v12 (broadcastInDim S16384x8192 ![] bcast_S_S16384x8192 : (⟨S_, .f32⟩ : BufTy).Contents (Elt F) → (⟨S16384x8192, .f32⟩ : BufTy).Contents (Elt F)),
    StableHlo.binary main_v12 main_v7 main_v13 (mulf : (⟨S16384x8192, .f32⟩ : BufTy).Contents (Elt F) → (⟨S16384x8192, .f32⟩ : BufTy).Contents (Elt F) → (⟨S16384x8192, .f32⟩ : BufTy).Contents (Elt F)),
    StableHlo.binary main_v11 main_v13 main_v14 (subf : (⟨S16384x8192, .f32⟩ : BufTy).Contents (Elt F) → (⟨S16384x8192, .f32⟩ : BufTy).Contents (Elt F) → (⟨S16384x8192, .f32⟩ : BufTy).Contents (Elt F)) ]
/-- Every operation of `opsDist` touches only buffers of the main processor. -/
theorem opsDist_sub : (opsDist : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
/-- The stage that picks, for each input row, the position of the nearest code. -/
abbrev opsArg : List (HloOp τ sig (Elt F)) :=
  [ StableHlo.TRef.nullary (.of main_call0_v0 : StableHlo.TRef sig ⟨S16384x8192, .i32⟩) (iotaInDim S16384x8192 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v14 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_call0_v1_0 : StableHlo.TRef sig ⟨S16384, .f32⟩) (fun x y u v j => (Host.argReduce reducer_argmin_f32_i32 x y u v reducesTo_S16384x8192_S16384_d1 h_S_ j).1),
    StableHlo.TRef.quaternary (.of main_v14 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_v15 : StableHlo.TRef sig ⟨S16384, .i32⟩) (fun x y u v j => (Host.argReduce reducer_argmin_f32_i32 x y u v reducesTo_S16384x8192_S16384_d1 h_S_ j).2) ]
/-- Every operation of `opsArg` touches only buffers of the main processor. -/
theorem opsArg_sub : (opsArg : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The stage that looks the picked code rows up. -/
abbrev opsTake : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384, .i32⟩) (broadcastInDim S16384 ![] bcast_S_S16384),
    StableHlo.TRef.binary (.of main_v15 : StableHlo.TRef sig ⟨S16384, .i32⟩) (.of main_call1_v0 : StableHlo.TRef sig ⟨S16384, .i32⟩) (.of main_call1_v1 : StableHlo.TRef sig ⟨S16384, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S16384, .i32⟩) (broadcastInDim S16384 ![] bcast_S_S16384),
    StableHlo.TRef.binary (.of main_v15 : StableHlo.TRef sig ⟨S16384, .i32⟩) (.of main_call1_v2 : StableHlo.TRef sig ⟨S16384, .i32⟩) (.of main_call1_v3 : StableHlo.TRef sig ⟨S16384, .i32⟩) addi,
    StableHlo.TRef.ternary (.of main_call1_v1 : StableHlo.TRef sig ⟨S16384, .i1⟩) (.of main_call1_v3 : StableHlo.TRef sig ⟨S16384, .i32⟩) (.of main_v15 : StableHlo.TRef sig ⟨S16384, .i32⟩) (.of main_call1_v4 : StableHlo.TRef sig ⟨S16384, .i32⟩) select,
    StableHlo.TRef.unary (.of main_call1_v4 : StableHlo.TRef sig ⟨S16384, .i32⟩) (.of main_call1_v5 : StableHlo.TRef sig ⟨S16384x1, .i32⟩) (broadcastInDim S16384x1 ![0] bcast_S16384_S16384x1_0),
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1, .i32⟩) (broadcastInDim S16384x1 ![] bcast_S_S16384x1),
    StableHlo.TRef.binary (.of main_call1_v5 : StableHlo.TRef sig ⟨S16384x1, .i32⟩) (.of main_call1_v6 : StableHlo.TRef sig ⟨S16384x1, .i32⟩) (.of main_call1_v7 : StableHlo.TRef sig ⟨S16384x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16384x1, .i32⟩) (broadcastInDim S16384x1 ![0, 1] bcast_S1x1_S16384x1_0_1),
    StableHlo.TRef.binary (.of main_call1_v5 : StableHlo.TRef sig ⟨S16384x1, .i32⟩) (.of main_call1_v9 : StableHlo.TRef sig ⟨S16384x1, .i32⟩) (.of main_call1_v10 : StableHlo.TRef sig ⟨S16384x1, .i1⟩) (cmpi .sle),
    StableHlo.TRef.binary (.of main_call1_v7 : StableHlo.TRef sig ⟨S16384x1, .i1⟩) (.of main_call1_v10 : StableHlo.TRef sig ⟨S16384x1, .i1⟩) (.of main_call1_v11 : StableHlo.TRef sig ⟨S16384x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1, .i1⟩) (.of main_call1_c_3 : StableHlo.TRef sig ⟨S_, .i1⟩) (.of main_call1_v12 : StableHlo.TRef sig ⟨S16384, .i1⟩) (fun x v => Host.reduce IntOp.andi x v reducesTo_S16384x1_S16384_d1 h_S_),
    StableHlo.TRef.binary (.of main_arg1 : StableHlo.TRef sig ⟨S8192x256, .f32⟩) (.of main_call1_v5 : StableHlo.TRef sig ⟨S16384x1, .i32⟩) (.of main_call1_v13 : StableHlo.TRef sig ⟨S16384x256, .f32⟩) (fun x i => Host.gather gather_S8192x256_S16384x1_S16384x256_1_0_n_n_0_1_1256 x i),
    StableHlo.TRef.unary (.of main_call1_v12 : StableHlo.TRef sig ⟨S16384, .i1⟩) (.of main_call1_v14 : StableHlo.TRef sig ⟨S16384x256, .i1⟩) (broadcastInDim S16384x256 ![0] bcast_S16384_S16384x256_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16384x256, .f32⟩) (broadcastInDim S16384x256 ![] bcast_S_S16384x256),
    StableHlo.TRef.ternary (.of main_call1_v14 : StableHlo.TRef sig ⟨S16384x256, .i1⟩) (.of main_call1_v13 : StableHlo.TRef sig ⟨S16384x256, .f32⟩) (.of main_call1_v15 : StableHlo.TRef sig ⟨S16384x256, .f32⟩) (.of main_v16 : StableHlo.TRef sig ⟨S16384x256, .f32⟩) select ]
/-- Every operation of `opsTake` touches only buffers of the main processor. -/
theorem opsTake_sub : (opsTake : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- The closing arithmetic: the straight-through output, the codes reshaped, and the scaled mean square. -/
abbrev opsTail : List (HloOp τ sig (Elt F)) :=
  [ StableHlo.reshape main_v16 main_v17 (rfl : (.f32 : EltTy) = .f32) shapeCasts_S16384x256_S16x1024x256,
    StableHlo.reshape main_v15 main_v18 (rfl : (.i32 : EltTy) = .i32) shapeCasts_S16384_S16x1024,
    StableHlo.binary main_v17 main_arg0 main_v19 (subf : (⟨S16x1024x256, .f32⟩ : BufTy).Contents (Elt F) → (⟨S16x1024x256, .f32⟩ : BufTy).Contents (Elt F) → (⟨S16x1024x256, .f32⟩ : BufTy).Contents (Elt F)),
    StableHlo.binary main_v19 main_v19 main_v20 (mulf : (⟨S16x1024x256, .f32⟩ : BufTy).Contents (Elt F) → (⟨S16x1024x256, .f32⟩ : BufTy).Contents (Elt F) → (⟨S16x1024x256, .f32⟩ : BufTy).Contents (Elt F)),
    StableHlo.nullary main_cst_2 (constant S_ .f32 0x00000000#32),
    StableHlo.binary main_v20 main_cst_2 main_v21 ((fun x v => Host.reduceAdd x v reducesTo_S16x1024x256_S_d0_1_2 h_S_) : (⟨S16x1024x256, .f32⟩ : BufTy).Contents (Elt F) → (⟨S_, .f32⟩ : BufTy).Contents (Elt F) → (⟨S_, .f32⟩ : BufTy).Contents (Elt F)),
    StableHlo.nullary main_cst_3 (constant S_ .f32 0x4A800000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.binary main_v17 main_arg0 main_v23 (subf : (⟨S16x1024x256, .f32⟩ : BufTy).Contents (Elt F) → (⟨S16x1024x256, .f32⟩ : BufTy).Contents (Elt F) → (⟨S16x1024x256, .f32⟩ : BufTy).Contents (Elt F)),
    StableHlo.binary main_arg0 main_v23 main_v24 (addf : (⟨S16x1024x256, .f32⟩ : BufTy).Contents (Elt F) → (⟨S16x1024x256, .f32⟩ : BufTy).Contents (Elt F) → (⟨S16x1024x256, .f32⟩ : BufTy).Contents (Elt F)),
    StableHlo.nullary main_cst_4 (constant S_ .f32 0x3E800000#32),
    StableHlo.binary main_v22 main_cst_4 main_v25 (mulf : (⟨S_, .f32⟩ : BufTy).Contents (Elt F) → (⟨S_, .f32⟩ : BufTy).Contents (Elt F) → (⟨S_, .f32⟩ : BufTy).Contents (Elt F)) ]
/-- Every operation of `opsTail` touches only buffers of the main processor. -/
theorem opsTail_sub : (opsTail : List (HloOp τ sig (Elt F))).Forall fun op => op.bufs ⊆ StableHlo.tcRefs τ sig :=
  ⟨StableHlo.reshape_bufs_sub .., StableHlo.reshape_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub ..⟩

/-- The whole reference, stage after stage. -/
abbrev ops : List (HloOp τ sig (Elt F)) := opsDist ++ (opsArg ++ (opsTake ++ opsTail))

/-- The reference program is exactly that line of operations. -/
theorem main_eq (c : Dev nD) : main (F := F) c = seq ops := rfl

/-- Every operation of the line touches only buffers of the main processor. -/
theorem ops_sub : (ops : List (HloOp τ sig (Elt F))).Forall fun op => op.bufs ⊆ tcRefs τ sig :=
  List.forall_append.2 ⟨opsDist_sub, List.forall_append.2 ⟨opsArg_sub, List.forall_append.2 ⟨opsTake_sub, opsTail_sub⟩⟩⟩

/-- No buffer of this program is scoped. -/
theorem scopedRefs_eq : (Finset.univ.filter fun b : Ref sig .tc => b.isScoped) = ∅ := by decide
/-- No semaphore of this program is scoped. -/
theorem scopedSems_eq : (Finset.univ.filter fun sm : SemLoc sig => sm.isScoped .tc) = ∅ := by decide

/-- Running two lines of operations one after the other is running their concatenation. -/
theorem after_two (l₁ l₂ : List (HloOp τ sig (Elt F))) (V : Valuation τ sig (Elt F)) :
    after (l₁ ++ l₂) V = after l₂ (after l₁ V) := by
  induction l₁ generalizing V with
  | nil => rfl
  | cons o l ih => exact ih _

end Cert.Vq.Ref

end
-- ==== Proof.Vq.RefVals.lean ====
/-
  What each stage of the reference leaves in the buffers that later stages read, as array terms over the contents it
  started from.
-/
module

public import proofs.«01_k».proof.Proof.Vq.RefOps

@[expose] public section

noncomputable section

namespace Cert.Vq.Ref

open Cert.ReferenceIdeal Cert.ReferenceIdeal.Gen
open Idealize.ShloMosaic Idealize.ShloMosaic.TcCoe Idealize.ShloMosaic.StableHlo Idealize.SL.Sem

variable {F : FTy → Type} [FloatOps F]

/-- The input rows: the (16, 1024, 256) input read as (16384, 256). -/
def rows (z : FVec F S16x1024x256 .f32) : FVec F S16384x256 .f32 :=
  shapeCast S16384x256 z shapeCasts_S16x1024x256_S16384x256

/-- Every squared distance, as ‖row‖² + ‖code‖² − 2·(row · code). -/
def dist (z : FVec F S16x1024x256 .f32) (e : FVec F S8192x256 .f32) : FVec F S16384x8192 .f32 :=
  subf
    (addf
      (broadcastInDim S16384x8192 ![0, 1] bcast_S16384x1_S16384x8192_0_1
        (broadcastInDim S16384x1 ![0] bcast_S16384_S16384x1_0
          (Host.reduceAdd (mulf (rows z) (rows z)) (constant S_ .f32 0x00000000#32) reducesTo_S16384x256_S16384_d1 h_S_)))
      (broadcastInDim S16384x8192 ![0, 1] bcast_S1x8192_S16384x8192_0_1
        (broadcastInDim S1x8192 ![1] bcast_S8192_S1x8192_1
          (Host.reduceAdd (mulf e e) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none (rows z)
        (transpose S256x8192 [1, 0] e transposes_S8192x256_S256x8192_1_0)))

/-- The second components of an array of pairs. -/
def seconds {s : Shape} {α β : Type} (p : s.Idx → α × β) : s.Idx → β := fun j => (p j).2

/-- The position of the smallest entry of each row, by the reference's own pairwise comparison. -/
def argmin (d : FVec F S16384x8192 .f32) : IVec S16384 32 :=
  seconds (Host.argReduce reducer_argmin_f32_i32 d (iotaInDim S16384x8192 32 1) (constant S_ .f32 0x7F800000#32)
    (constantI S_ 32 0#32) reducesTo_S16384x8192_S16384_d1 h_S_)

/-- The row numbers after negative ones have had the number of rows added. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- Which row numbers lie in the table. -/
def inTable (i : IVec S16384 32) : IVec S16384 1 :=
  Host.reduce IntOp.andi
    (andi (cmpi .sge (wrapped i) (broadcastInDim S16384x1 ![] bcast_S_S16384x1 (constantI S_ 32 0#32)))
      (cmpi .sle (wrapped i) (broadcastInDim S16384x1 ![0, 1] bcast_S1x1_S16384x1_0_1
        (broadcastInDim S1x1 ![1] bcast_S1_S1x1_1 (constantI S1 32 8191#32)))))
    (constantI S_ 1 1#1) reducesTo_S16384x1_S16384_d1 h_S_

/-- The looked up rows: the table's row where the row number lies in the table, a marker value elsewhere. -/
def take (e : FVec F S8192x256 .f32) (i : IVec S16384 32) : FVec F S16384x256 .f32 :=
  select (broadcastInDim S16384x256 ![0] bcast_S16384_S16384x256_0 (inTable i))
    (Host.gather gather_S8192x256_S16384x1_S16384x256_1_0_n_n_0_1_1256 e (wrapped i))
    (broadcastInDim S16384x256 ![] bcast_S_S16384x256 (constant S_ .f32 0x7FC00000#32))

/-- The looked up rows in the input's shape. -/
def slab (q : FVec F S16384x256 .f32) : FVec F S16x1024x256 .f32 :=
  shapeCast S16x1024x256 q shapeCasts_S16384x256_S16x1024x256

/-- The loss: a quarter of the mean squared difference. -/
def loss (z : FVec F S16x1024x256 .f32) (q : FVec F S16384x256 .f32) : FVec F S_ .f32 :=
  mulf
    (Host.divf
      (Host.reduceAdd (mulf (subf (slab q) z) (subf (slab q) z)) (constant S_ .f32 0x00000000#32)
        reducesTo_S16x1024x256_S_d0_1_2 h_S_)
      (constant S_ .f32 0x4A800000#32))
    (constant S_ .f32 0x3E800000#32)

/-- The straight-through output: input plus (looked up row minus input). -/
def through (z : FVec F S16x1024x256 .f32) (q : FVec F S16384x256 .f32) : FVec F S16x1024x256 .f32 :=
  addf z (subf (slab q) z)

/-- Reading the distance buffer at its own type is reading it. -/
theorem of_v14 (a b c) (v : (main_v14 : Ref sig .tc).ty.Contents (Elt F)) :
    (TRef.of (T := ⟨S16384x8192, .f32⟩) (main_v14 : Ref sig .tc) a b c).ofBuf v = v := eq_of_heq (cast_heq _ _)
/-- Reading the position buffer at its own type is reading it. -/
theorem of_v15r (a b c) (v : (main_v15 : Ref sig .tc).ty.Contents (Elt F)) :
    (TRef.of (T := ⟨S16384, .i32⟩) (main_v15 : Ref sig .tc) a b c).ofBuf v = v := eq_of_heq (cast_heq _ _)
/-- Writing the position buffer at its own type is writing it. -/
theorem of_v15 (a b c) (v : (⟨S16384, .i32⟩ : BufTy).Contents (Elt F)) :
    (TRef.of (T := ⟨S16384, .i32⟩) (main_v15 : Ref sig .tc) a b c).toBuf v = v := eq_of_heq (cast_heq _ _)
/-- Reading the code buffer at its own type is reading it. -/
theorem of_arg1 (a b c) (v : (main_arg1 : Ref sig .tc).ty.Contents (Elt F)) :
    (TRef.of (T := ⟨S8192x256, .f32⟩) (main_arg1 : Ref sig .tc) a b c).ofBuf v = v := eq_of_heq (cast_heq _ _)
/-- Writing the lookup's result buffer at its own type is writing it. -/
theorem of_v16 (a b c) (v : (⟨S16384x256, .f32⟩ : BufTy).Contents (Elt F)) :
    (TRef.of (T := ⟨S16384x256, .f32⟩) (main_v16 : Ref sig .tc) a b c).toBuf v = v := eq_of_heq (cast_heq _ _)

/-- The distance stage leaves the distances. -/
theorem dist_eq (V : Valuation τ sig (Elt F)) :
    after opsDist V (main_v14 : DevRef τ sig) = dist (V (main_arg0 : DevRef τ sig)) (V (main_arg1 : DevRef τ sig)) := by
  after_results
  rfl
/-- The distance stage leaves the input. -/
theorem dist_arg0 (V : Valuation τ sig (Elt F)) :
    after opsDist V (main_arg0 : DevRef τ sig) = V (main_arg0 : DevRef τ sig) := by
  after_results
/-- The distance stage leaves the codes. -/
theorem dist_arg1 (V : Valuation τ sig (Elt F)) :
    after opsDist V (main_arg1 : DevRef τ sig) = V (main_arg1 : DevRef τ sig) := by
  after_results

/-- The search stage leaves the positions of the nearest codes. -/
theorem arg_eq (V : Valuation τ sig (Elt F)) :
    after opsArg V (main_v15 : DevRef τ sig) = argmin (V (main_v14 : DevRef τ sig)) := by
  after_results
  simp only [TRef.ofBuf_toBuf, of_v14, of_v15]
  rfl
/-- The search stage leaves the input. -/
theorem arg_arg0 (V : Valuation τ sig (Elt F)) :
    after opsArg V (main_arg0 : DevRef τ sig) = V (main_arg0 : DevRef τ sig) := by
  after_results
/-- The search stage leaves the codes. -/
theorem arg_arg1 (V : Valuation τ sig (Elt F)) :
    after opsArg V (main_arg1 : DevRef τ sig) = V (main_arg1 : DevRef τ sig) := by
  after_results

/-- The lookup stage leaves the looked up rows. -/
theorem take_eq (V : Valuation τ sig (Elt F)) :
    after opsTake V (main_v16 : DevRef τ sig) = take (V (main_arg1 : DevRef τ sig)) (V (main_v15 : DevRef τ sig)) := by
  after_results
  simp only [TRef.ofBuf_toBuf, of_v15r, of_arg1, of_v16]
  rfl
/-- The lookup stage leaves the positions. -/
theorem take_v15 (V : Valuation τ sig (Elt F)) :
    after opsTake V (main_v15 : DevRef τ sig) = V (main_v15 : DevRef τ sig) := by
  after_results
/-- The lookup stage leaves the input. -/
theorem take_arg0 (V : Valuation τ sig (Elt F)) :
    after opsTake V (main_arg0 : DevRef τ sig) = V (main_arg0 : DevRef τ sig) := by
  after_results
/-- The lookup stage leaves the codes. -/
theorem take_arg1 (V : Valuation τ sig (Elt F)) :
    after opsTake V (main_arg1 : DevRef τ sig) = V (main_arg1 : DevRef τ sig) := by
  after_results

/-- The closing stage leaves the straight-through output. -/
theorem tail_v24 (V : Valuation τ sig (Elt F)) :
    after opsTail V (main_v24 : DevRef τ sig) = through (V (main_arg0 : DevRef τ sig)) (V (main_v16 : DevRef τ sig)) := by
  after_results
  rfl
/-- The closing stage leaves the positions in the shape (16, 1024). -/
theorem tail_v18 (V : Valuation τ sig (Elt F)) :
    after opsTail V (main_v18 : DevRef τ sig)
      = shapeCast S16x1024 (V (main_v15 : DevRef τ sig)) shapeCasts_S16384_S16x1024 := by
  after_results
  rfl
/-- The closing stage leaves the loss. -/
theorem tail_v25 (V : Valuation τ sig (Elt F)) :
    after opsTail V (main_v25 : DevRef τ sig) = loss (V (main_arg0 : DevRef τ sig)) (V (main_v16 : DevRef τ sig)) := by
  after_results
  rfl
/-- The closing stage leaves the input. -/
theorem tail_arg0 (V : Valuation τ sig (Elt F)) :
    after opsTail V (main_arg0 : DevRef τ sig) = V (main_arg0 : DevRef τ sig) := by
  after_results
/-- The closing stage leaves the codes. -/
theorem tail_arg1 (V : Valuation τ sig (Elt F)) :
    after opsTail V (main_arg1 : DevRef τ sig) = V (main_arg1 : DevRef τ sig) := by
  after_results

end Cert.Vq.Ref

end
-- ==== Proof.Vq.RefRun.lean ====
/-
  The reference's run: it terminates and leaves the three results as the array terms of RefVals, the inputs
  unchanged, and every semaphore at zero.
-/
module

public import proofs.«01_k».proof.Proof.Vq.RefVals
public import Idealize.ShloMosaic.Lib.Quiescent

@[expose] public section

noncomputable section

namespace Cert.Vq.Ref

open Cert.ReferenceIdeal Cert.ReferenceIdeal.Gen
open Idealize.ShloMosaic Idealize.ShloMosaic.TcCoe Idealize.ShloMosaic.StableHlo Idealize.SL.Sem

variable {F : FTy → Type} [FloatOps F]

/-- The position of the nearest code of each input row. -/
def codes (z : FVec F S16x1024x256 .f32) (e : FVec F S8192x256 .f32) : IVec S16384 32 := argmin (dist z e)

/-- The first result of the whole line: the straight-through output. -/
theorem ops_v24 (V : Valuation τ sig (Elt F)) :
    after ops V (main_v24 : DevRef τ sig)
      = through (V (main_arg0 : DevRef τ sig))
          (take (V (main_arg1 : DevRef τ sig)) (codes (V (main_arg0 : DevRef τ sig)) (V (main_arg1 : DevRef τ sig)))) := by
  rw [after_two, after_two, after_two, tail_v24, take_eq, take_arg0, arg_arg0, arg_arg1, arg_eq, dist_arg0, dist_arg1,
    dist_eq, codes]
/-- The second result of the whole line: the positions of the nearest codes. -/
theorem ops_v18 (V : Valuation τ sig (Elt F)) :
    after ops V (main_v18 : DevRef τ sig)
      = shapeCast S16x1024 (codes (V (main_arg0 : DevRef τ sig)) (V (main_arg1 : DevRef τ sig))) shapeCasts_S16384_S16x1024 := by
  rw [after_two, after_two, after_two, tail_v18, take_v15, arg_eq, dist_eq, codes]
/-- The third result of the whole line: the loss. -/
theorem ops_v25 (V : Valuation τ sig (Elt F)) :
    after ops V (main_v25 : DevRef τ sig)
      = loss (V (main_arg0 : DevRef τ sig))
          (take (V (main_arg1 : DevRef τ sig)) (codes (V (main_arg0 : DevRef τ sig)) (V (main_arg1 : DevRef τ sig)))) := by
  rw [after_two, after_two, after_two, tail_v25, take_eq, take_arg0, arg_arg0, arg_arg1, arg_eq, dist_arg0, dist_arg1,
    dist_eq, codes]
/-- The line leaves the input. -/
theorem ops_arg0 (V : Valuation τ sig (Elt F)) :
    after ops V (main_arg0 : DevRef τ sig) = V (main_arg0 : DevRef τ sig) := by
  rw [after_two, after_two, after_two, tail_arg0, take_arg0, arg_arg0, dist_arg0]
/-- The line leaves the codes. -/
theorem ops_arg1 (V : Valuation τ sig (Elt F)) :
    after ops V (main_arg1 : DevRef τ sig) = V (main_arg1 : DevRef τ sig) := by
  rw [after_two, after_two, after_two, tail_arg1, take_arg1, arg_arg1, dist_arg1]

/-- From any memory with zero counters the reference terminates, with its three results, its unchanged inputs and
    every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v24)
          = through (m ((c.tc : Thread nD τ).loc main_arg0))
              (take (m ((c.tc : Thread nD τ).loc main_arg1))
                (codes (m ((c.tc : Thread nD τ).loc main_arg0)) (m ((c.tc : Thread nD τ).loc main_arg1))))
        ∧ r.2.mem ((c.tc : Thread nD τ).loc main_v18)
          = shapeCast S16x1024 (codes (m ((c.tc : Thread nD τ).loc main_arg0)) (m ((c.tc : Thread nD τ).loc main_arg1)))
              shapeCasts_S16384_S16x1024
        ∧ r.2.mem ((c.tc : Thread nD τ).loc main_v25)
          = loss (m ((c.tc : Thread nD τ).loc main_arg0))
              (take (m ((c.tc : Thread nD τ).loc main_arg1))
                (codes (m ((c.tc : Thread nD τ).loc main_arg0)) (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h =>
      ⟨fun c => ⟨(h c main_v24).trans (ops_v24 _), (h c main_v18).trans (ops_v18 _), (h c main_v25).trans (ops_v25 _),
        (h c main_arg0).trans (ops_arg0 _), (h c main_arg1).trans (ops_arg1 _)⟩, sem_eq_zero_of_no_sems rfl r.2⟩)
    (run_seq scopedRefs_eq scopedSems_eq defs main (fun _ => ops) main_eq (fun _ => ops_sub) m ρ)

end Cert.Vq.Ref

end
-- ==== Proof.Vq.Chunk.lean ====
/-
  One chunk of the kernel's table lookup: the product of a one-hot matrix with 1024 rows of the table is the picked row
  where the position lies in the chunk, and zero elsewhere. Eight chunks added up are the picked row.
-/
module

public import proofs.«01_k».proof.Proof.Gen.KernelIdeal.Skeleton
public import Idealize.ShloMosaic.Lib.IdealHost
public import Idealize.ShloMosaic.Lib.MatmulPlain
public import Idealize.ShloMosaic.Lib.ValueIdxCore
public import Idealize.ShloMosaic.Lib.Pipeline.Value

@[expose] public section

noncomputable section

namespace Cert.Vq.Ker

open Cert.KernelIdeal Cert.KernelIdeal.Gen
open Idealize.ShloMosaic Idealize.ShloMosaic.TcCoe Idealize.ShloMosaic.ValueIdx Idealize.SL.Sem
open scoped BigOperators

/-- The one-hot matrix of a chunk that starts at `k`: one where the position equals the column's number plus `k`. -/
def hot (k : BitVec 32) (v : FVec Ideal S1024 .f32) : FVec Ideal S1024x1024 .bf16 :=
  truncf .bf16 (sitofp .f32 (extui 32 (cmpf .oeq
    (sitofp .f32 (addi (iota .tc S1024x1024 32 [1] iota_S1024x1024_d1_w32) (broadcast S1024x1024 k)))
    (broadcastTo S1024x1024 (shapeCast S1024x1 v shapeCasts_S1024_S1024x1) broadcasts_S1024x1_S1024x1024)) natLt_1_32))
    bitsLt_bf16_f32

/-- The chunk's product. -/
def chunk (k : BitVec 32) (v : FVec Ideal S1024 .f32) (e : FVec Ideal S1024x256 .bf16) : FVec Ideal S1024x256 .f32 :=
  matmul dot_S1024x1024_S1024x256_S1024x256_1_0_0_1_n_n none (hot k v) e (constant S1024x256 .f32 0x00000000#32)

/-- The position of row `r`, spread over the columns. -/
theorem spread_apply (v : FVec Ideal S1024 .f32) (r c : Fin 1024) :
    broadcastTo S1024x1024 (shapeCast S1024x1 v shapeCasts_S1024_S1024x1) broadcasts_S1024x1_S1024x1024 (ix2 r c)
      = v (ix1 r) := by
  refine (broadcastTo_apply (s := S1024x1) (t := S1024x1024) _ _ (ix2 r c) (ix2 r 0) ?_).trans ?_
  · intro a
    match a with
    | ⟨0, _⟩ => rfl
    | ⟨1, _⟩ => rfl
  · refine shapeCast_apply (s := S1024) (t := S1024x1) _ _ (ix2 r 0) (ix1 r) ?_
    rw [Shape.rowMajor_val_one, Shape.rowMajor_val_two]
    show r.val = r.val * 1 + 0
    omega

/-- The column's number plus `k`. -/
theorem count_apply (k : BitVec 32) (r c : Fin 1024) :
    addi (iota .tc S1024x1024 32 [1] iota_S1024x1024_d1_w32) (broadcast S1024x1024 k) (ix2 r c)
      = BitVec.ofNat 32 c.val + k := by
  show IntOp.addi (iota .tc S1024x1024 32 [1] iota_S1024x1024_d1_w32 (ix2 r c)) k = _
  rw [iota_single_apply]
  rfl

/-- A comparison of two whole numbers, read back as a number, is one where they are equal and zero elsewhere. -/
theorem bit_number (a b : BitVec 32) :
    ((((Ideal.cmp .oeq ((a.toInt : ℝ) : EReal) ((b.toInt : ℝ) : EReal)).setWidth 32).toInt : ℝ) : EReal)
      = if a = b then 1 else 0 := by
  unfold Ideal.cmp
  by_cases h : a = b
  · subst h
    simp
  · have hn : ¬ (((a.toInt : ℝ) : EReal) = ((b.toInt : ℝ) : EReal)) := by
      rw [EReal.coe_eq_coe_iff, Int.cast_inj, BitVec.toInt_inj]; exact h
    simp only [decide_eq_false hn, if_neg h]
    simp

/-- An entry of the one-hot matrix. -/
theorem hot_apply (k : BitVec 32) (v : FVec Ideal S1024 .f32) (r c : Fin 1024) (w : BitVec 32)
    (hv : v (ix1 r) = ((w.toInt : ℝ) : EReal)) :
    hot k v (ix2 r c) = if BitVec.ofNat 32 c.val + k = w then (1 : EReal) else 0 := by
  have h := bit_number (BitVec.ofNat 32 c.val + k) w
  rw [← h, ← hv, ← spread_apply v r c, ← count_apply k r c]
  rfl

/-- A column's number plus the chunk's start is a position exactly where the column is the position's place in the
    chunk. -/
theorem word_eq_iff (q : Nat) (hq : q < 8) (k w : BitVec 32) (hk : k.toNat = 1024 * q) (c : Fin 1024) :
    BitVec.ofNat 32 c.val + k = w ↔ w.toNat = 1024 * q + c.val := by
  have hc := c.isLt
  constructor
  · intro h
    rw [← h, BitVec.toNat_add, BitVec.toNat_ofNat, hk]
    omega
  · intro h
    apply BitVec.eq_of_toNat_eq
    rw [h, BitVec.toNat_add, BitVec.toNat_ofNat, hk]
    omega

/-- One chunk's product: the table's row at the position where the position lies in the chunk, zero elsewhere. -/
theorem chunk_apply (q : Nat) (hq : q < 8) (k w : BitVec 32) (hk : k.toNat = 1024 * q) (hw : w.toNat < 8192)
    (v : FVec Ideal S1024 .f32) (e : FVec Ideal S1024x256 .bf16) (E : FVec Ideal S8192x256 .bf16) (r : Fin 1024)
    (d : Fin 256) (hv : v (ix1 r) = ((w.toInt : ℝ) : EReal))
    (he : ∀ c : Fin 1024, e (ix2 c d) = E (ix2 ⟨1024 * q + c.val, by have := c.isLt; omega⟩ d)) :
    chunk k v e (ix2 r d) = if w.toNat / 1024 = q then E (ix2 ⟨w.toNat, hw⟩ d) else (0 : EReal) := by
  have h0 : chunk k v e (ix2 r d)
      = constant S1024x256 .f32 0x00000000#32 (ix2 r d) + ∑ c : Fin 1024, hot k v (ix2 r c) * e (ix2 c d) :=
    Ideal.matmul_plain_apply none (hot k v) e (constant S1024x256 .f32 0x00000000#32) r d
  have hz : (constant S1024x256 .f32 0x00000000#32 : FVec Ideal S1024x256 .f32) (ix2 r d) = (0 : EReal) :=
    Ideal.ofBits_zero_f32
  rw [h0, hz, zero_add]
  have hs : ∀ c : Fin 1024, hot k v (ix2 r c) * e (ix2 c d)
      = if w.toNat = 1024 * q + c.val then E (ix2 ⟨w.toNat, hw⟩ d) else (0 : EReal) := by
    intro c
    rw [hot_apply k v r c w hv]
    by_cases h : w.toNat = 1024 * q + c.val
    · rw [if_pos ((word_eq_iff q hq k w hk c).2 h), if_pos h, he c]
      refine (one_mul _).trans (congrArg (fun x : Fin 8192 => E (ix2 x d)) (Fin.ext h.symm))
    · rw [if_neg (fun h' => h ((word_eq_iff q hq k w hk c).1 h')), if_neg h]
      exact zero_mul _
  rw [Finset.sum_congr rfl fun c _ => hs c]
  by_cases h : w.toNat / 1024 = q
  · rw [if_pos h]
    have hr : w.toNat % 1024 < 1024 := Nat.mod_lt _ (by norm_num)
    rw [Finset.sum_eq_single (⟨w.toNat % 1024, hr⟩ : Fin 1024)]
    · rw [if_pos]
      show w.toNat = 1024 * q + w.toNat % 1024
      omega
    · intro c _ hc
      rw [if_neg]
      intro h'
      apply hc
      apply Fin.ext
      show c.val = w.toNat % 1024
      have := c.isLt
      omega
    · intro hn
      exact absurd (Finset.mem_univ _) hn
  · rw [if_neg h]
    refine Finset.sum_eq_zero fun c _ => if_neg ?_
    intro h'
    apply h
    have := c.isLt
    omega

/-- Eight numbers of which only the one at the position's chunk is not zero add up to it. -/
theorem eight_sum (n : Nat) (hn : n < 8192) (x : EReal) :
    ((((((((0 + (if n / 1024 = 0 then x else 0)) + (if n / 1024 = 1 then x else 0)) + (if n / 1024 = 2 then x else 0))
      + (if n / 1024 = 3 then x else 0)) + (if n / 1024 = 4 then x else 0)) + (if n / 1024 = 5 then x else 0))
      + (if n / 1024 = 6 then x else 0)) + (if n / 1024 = 7 then x else 0)) = x := by
  have h : n / 1024 < 8 := by omega
  generalize n / 1024 = q at h
  interval_cases q <;> simp

end Cert.Vq.Ker

end
-- ==== Proof.Vq.Row.lean ====
/-
  The table row that a position names.
-/
module

public import Mathlib.Data.Fin.Basic
public import Mathlib.Tactic.NormNum

@[expose] public section

namespace Cert.Vq

/-- The table row that a position names, held inside the table. -/
def rowOf (w : BitVec 32) : Fin 8192 := ⟨min w.toNat 8191, by omega⟩

/-- A position inside the table names its own row. -/
theorem rowOf_val (w : BitVec 32) (h : w.toNat < 8192) : (rowOf w).val = w.toNat := by
  show min w.toNat 8191 = w.toNat
  omega

end Cert.Vq

end
-- ==== Proof.Vq.Payload.lean ====
/-
  What one grid step of the kernel computes from its block of positions, the table and its block of input rows: the
  straight-through rows and the step's part of the loss.
-/
module

public import proofs.«01_k».proof.Proof.Vq.Chunk
public import proofs.«01_k».proof.Proof.Vq.Row

@[expose] public section

noncomputable section

namespace Cert.Vq.Ker

open Cert.KernelIdeal Cert.KernelIdeal.Gen
open Idealize.ShloMosaic Idealize.ShloMosaic.TcCoe Idealize.ShloMosaic.ValueIdx Idealize.SL.Sem
open scoped BigOperators

/-- The looked up row minus the input row, as the kernel computes it from the eight chunks of the table. -/
abbrev rawDiff (v : FVec Ideal S1024 .f32) (e0 e1 e2 e3 e4 e5 e6 e7 : FVec Ideal S1024x256 .bf16)
    (x : FVec Ideal S1024x256 .f32) : FVec Ideal S1024x256 .f32 :=
  k0_pay7 (k0_pay2 v) (k0_pay4 (k0_pay2 v) (k0_pay3 v e0 e1 e2) e3 e4 e5) (k0_pay5 e6)
    (iota .tc S1024x1024 32 [1] iota_S1024x1024_d1_w32) 6144#32 e7 x

/-- That difference as eight chunks added one after the other, minus the input row. -/
theorem rawDiff_eq (v : FVec Ideal S1024 .f32) (e0 e1 e2 e3 e4 e5 e6 e7 : FVec Ideal S1024x256 .bf16)
    (x : FVec Ideal S1024x256 .f32) :
    rawDiff v e0 e1 e2 e3 e4 e5 e6 e7 x
      = subf (addf (addf (addf (addf (addf (addf (addf (addf (broadcast S1024x256 (Scalar.ofBits .f32 0x00000000#32))
          (chunk 0#32 v e0)) (chunk 1024#32 v e1)) (chunk 2048#32 v e2)) (chunk 3072#32 v e3)) (chunk 4096#32 v e4))
          (chunk 5120#32 v e5)) (chunk 6144#32 v e6)) (chunk 7168#32 v e7)) x := by
  unfold rawDiff k0_pay7 k0_pay6 k0_pay5 k0_pay4 k0_pay3 k0_pay2
  simp only [shapeCast_self]
  rfl

/-- The difference at row `r` and column `d`: the table's row at the position, minus the input. -/
theorem rawDiff_apply (v : FVec Ideal S1024 .f32) (e0 e1 e2 e3 e4 e5 e6 e7 : FVec Ideal S1024x256 .bf16)
    (x : FVec Ideal S1024x256 .f32) (E : FVec Ideal S8192x256 .bf16) (w : BitVec 32) (hw : w.toNat < 8192)
    (r : Fin 1024) (d : Fin 256) (hv : v (ix1 r) = ((w.toInt : ℝ) : EReal))
    (h0 : ∀ c : Fin 1024, e0 (ix2 c d) = E (ix2 ⟨1024 * 0 + c.val, by have := c.isLt; omega⟩ d))
    (h1 : ∀ c : Fin 1024, e1 (ix2 c d) = E (ix2 ⟨1024 * 1 + c.val, by have := c.isLt; omega⟩ d))
    (h2 : ∀ c : Fin 1024, e2 (ix2 c d) = E (ix2 ⟨1024 * 2 + c.val, by have := c.isLt; omega⟩ d))
    (h3 : ∀ c : Fin 1024, e3 (ix2 c d) = E (ix2 ⟨1024 * 3 + c.val, by have := c.isLt; omega⟩ d))
    (h4 : ∀ c : Fin 1024, e4 (ix2 c d) = E (ix2 ⟨1024 * 4 + c.val, by have := c.isLt; omega⟩ d))
    (h5 : ∀ c : Fin 1024, e5 (ix2 c d) = E (ix2 ⟨1024 * 5 + c.val, by have := c.isLt; omega⟩ d))
    (h6 : ∀ c : Fin 1024, e6 (ix2 c d) = E (ix2 ⟨1024 * 6 + c.val, by have := c.isLt; omega⟩ d))
    (h7 : ∀ c : Fin 1024, e7 (ix2 c d) = E (ix2 ⟨1024 * 7 + c.val, by have := c.isLt; omega⟩ d)) :
    rawDiff v e0 e1 e2 e3 e4 e5 e6 e7 x (ix2 r d) = (E (ix2 (rowOf w) d) : EReal) - x (ix2 r d) := by
  have hz : (Scalar.ofBits .f32 0x00000000#32 : Ideal .f32) = (0 : EReal) := Ideal.ofBits_zero_f32
  have hr : (⟨w.toNat, hw⟩ : Fin 8192) = rowOf w := Fin.ext (rowOf_val w hw).symm
  have c0 := chunk_apply 0 (by norm_num) 0#32 w rfl hw v e0 E r d hv h0
  have c1 := chunk_apply 1 (by norm_num) 1024#32 w rfl hw v e1 E r d hv h1
  have c2 := chunk_apply 2 (by norm_num) 2048#32 w rfl hw v e2 E r d hv h2
  have c3 := chunk_apply 3 (by norm_num) 3072#32 w rfl hw v e3 E r d hv h3
  have c4 := chunk_apply 4 (by norm_num) 4096#32 w rfl hw v e4 E r d hv h4
  have c5 := chunk_apply 5 (by norm_num) 5120#32 w rfl hw v e5 E r d hv h5
  have c6 := chunk_apply 6 (by norm_num) 6144#32 w rfl hw v e6 E r d hv h6
  have c7 := chunk_apply 7 (by norm_num) 7168#32 w rfl hw v e7 E r d hv h7
  have hs := eight_sum w.toNat hw (E (ix2 ⟨w.toNat, hw⟩ d))
  rw [rawDiff_eq]
  show (((((((((Scalar.ofBits .f32 0x00000000#32 : Ideal .f32) + chunk 0#32 v e0 (ix2 r d) : EReal)
    + chunk 1024#32 v e1 (ix2 r d)) + chunk 2048#32 v e2 (ix2 r d)) + chunk 3072#32 v e3 (ix2 r d))
    + chunk 4096#32 v e4 (ix2 r d)) + chunk 5120#32 v e5 (ix2 r d)) + chunk 6144#32 v e6 (ix2 r d))
    + chunk 7168#32 v e7 (ix2 r d)) - x (ix2 r d) = _
  rw [hz, c0, c1, c2, c3, c4, c5, c6, c7, hs, hr]

/-- A shape cast only moves the elements, so it keeps their total. -/
theorem sum_shapeCast {s t : Shape} (x : s.Idx → EReal) (h : s.ShapeCasts t) :
    ∑ j : t.Idx, shapeCast t x h j = ∑ i : s.Idx, x i :=
  Equiv.sum_comp (Shape.reshapeEquiv h) x

/-- A sum over every axis, shape-cast before and after, is the total of the elements. -/
theorem cast_total {s s' t u : Shape} {axes : List (Fin s'.rank)} (x : FVec Ideal s .f32) (hs : s.ShapeCasts s')
    (acc : BitVec FTy.f32.bits) (h : s'.Reduces axes t) (ht : ∀ b, t.size b = 1) (hφ : FKind.Formats .f32)
    (hacc : acc = FKind.add.neutral .f32 hφ) (hu : t.ShapeCasts u) (j : u.Idx) :
    shapeCast u (multiReduction (F := Ideal) .add axes t (shapeCast s' x hs) acc h hφ hacc) hu j = ∑ i : s.Idx, x i :=
  (Ideal.multiReduction_add_total (shapeCast s' x hs) acc h ht hφ hacc _).trans (sum_shapeCast x hs)

/-- The kernel's total of the squares of a block `D`. -/
def blockTotal (D : FVec Ideal S1024x256 .f32) : FVec Ideal S1x1 .f32 :=
  broadcast S1x1 (extractAt ![0, 0, 0] (shapeCast S1x1x1 (multiReduction .add [1, 2] S1
    (shapeCast S1x1024x256 (mulf D D) shapeCasts_S1024x256_S1x1024x256) 0x00000000#32 reduces_S1x1024x256_S1 (.inl rfl) rfl)
    shapeCasts_S1_S1x1x1) inpos_S1x1x1_p0_0_0)

/-- The element picked out of an array at a fixed place. -/
theorem pick_apply {α : Type} {s : Shape} (pos : Fin s.rank → Nat) (x : s.Idx → α) (h : ∀ a, pos a < s.size a) :
    extractAt pos x h = x fun a => ⟨pos a, h a⟩ := rfl

/-- The total of the squares, row by row and column by column. -/
theorem blockTotal_apply (D : FVec Ideal S1024x256 .f32) (i : S1x1.Idx) :
    blockTotal D i = ∑ r : Fin 1024, ∑ d : Fin 256, (D (ix2 r d) * D (ix2 r d) : EReal) := by
  unfold blockTotal
  refine (broadcast_apply _ i).trans ((pick_apply _ _ _).trans ?_)
  refine (cast_total (mulf D D) shapeCasts_S1024x256_S1x1024x256 0x00000000#32 reduces_S1x1024x256_S1
    (fun b => by match b with | ⟨0, _⟩ => rfl) (.inl rfl) rfl shapeCasts_S1_S1x1x1 _).trans ?_
  exact sum_idx2 (fun i => mulf D D i)

/-- The step's part of the loss is the total of the squares of the difference. -/
theorem pay9_eq (v1 : FVec Ideal S1024 .f32) (v86 : FVec Ideal S1024x256 .f32) (v88 : FVec Ideal S1024x256 .bf16)
    (v89 : IVec S1024x1024 32) (k : BitVec 32) (v101 : FVec Ideal S1024x256 .bf16) (x : FVec Ideal S1024x256 .f32) :
    k0_pay9 v1 v86 v88 v89 k v101 x = blockTotal (k0_pay7 v1 v86 v88 v89 k v101 x) := by
  unfold k0_pay9 blockTotal
  rfl

end Cert.Vq.Ker

end
-- ==== Proof.Vq.Block.lean ====
/-
  What one grid step leaves in its two output blocks: the straight-through rows, and the running loss total.
-/
module

public import proofs.«01_k».proof.Proof.Vq.Payload
public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

noncomputable section

namespace Cert.Vq.Ker

open Cert.KernelIdeal Cert.KernelIdeal.Gen
open Idealize.ShloMosaic Idealize.ShloMosaic.TcCoe Idealize.ShloMosaic.ValueIdx Idealize.SL.Sem
open scoped BigOperators

/-- Two zero offsets. -/
theorem hz : (![0, 0] : Fin 2 → Nat) = fun _ => 0 := funext fun a => by fin_cases a <;> rfl

/-- One zero offset. -/
theorem hz1 : (![0] : Fin 1 → Nat) = fun _ => 0 := funext fun a => by fin_cases a; rfl

/-- The 1024 table rows that start at the given offset. -/
def tile (x1 : FVec Ideal S8192x256 .bf16) (off : Fin S8192x256.rank → Nat)
    (inb : ∀ a, off a + S1024x256.size a ≤ S8192x256.size a) : FVec Ideal S1024x256 .bf16 :=
  View.ld (Val := Elt Ideal) (e' := .bf16) x1 (Rect.unit (s := S8192x256) off S1024x256.size inb)

/-- A row of a tile is the table's row that many places after the tile's start. -/
theorem tile_apply (x1 : FVec Ideal S8192x256 .bf16) (off : Fin S8192x256.rank → Nat)
    (inb : ∀ a, off a + S1024x256.size a ≤ S8192x256.size a) (c : Fin 1024) (d : Fin 256) (k : Nat) (hk : k + c.val < 8192)
    (h0 : off ⟨0, by decide⟩ = k) (h1 : off ⟨1, by decide⟩ = 0) :
    tile x1 off inb (ix2 c d) = x1 (ix2 ⟨k + c.val, hk⟩ d) := by
  unfold tile
  refine View.ld_unit_apply_of (Val := Elt Ideal) (e := .bf16) x1 off S1024x256.size inb (ix2 c d) (ix2 ⟨k + c.val, hk⟩ d) fun a => ?_
  match a with
  | ⟨0, _⟩ => exact (congrArg (· + c.val) h0).symm
  | ⟨1, _⟩ => exact (Nat.zero_add d.val).symm.trans (congrArg (· + d.val) h1.symm)

/-- One step's difference between the looked up rows and the input rows. -/
def diff (x0 : FVec Ideal S1024 .f32) (x1 : FVec Ideal S8192x256 .bf16) (x2 : FVec Ideal S1024x256 .f32) : FVec Ideal S1024x256 .f32 :=
  rawDiff x0 (tile x1 ![0, 0] inb_S8192x256_S1024x256_0_0) (tile x1 ![1024, 0] inb_S8192x256_S1024x256_1024_0) (tile x1 ![2048, 0] inb_S8192x256_S1024x256_2048_0) (tile x1 ![3072, 0] inb_S8192x256_S1024x256_3072_0) (tile x1 ![4096, 0] inb_S8192x256_S1024x256_4096_0) (tile x1 ![5120, 0] inb_S8192x256_S1024x256_5120_0) (tile x1 ![6144, 0] inb_S8192x256_S1024x256_6144_0) (tile x1 ![7168, 0] inb_S8192x256_S1024x256_7168_0) x2

/-- The difference at one row and column, when that row's position is the number `w`. -/
theorem diff_apply (x0 : FVec Ideal S1024 .f32) (x1 : FVec Ideal S8192x256 .bf16) (x2 : FVec Ideal S1024x256 .f32)
    (w : BitVec 32) (hw : w.toNat < 8192) (r : Fin 1024) (d : Fin 256) (hv : x0 (ix1 r) = ((w.toInt : ℝ) : EReal)) :
    diff x0 x1 x2 (ix2 r d) = (x1 (ix2 (rowOf w) d) : EReal) - x2 (ix2 r d) := by
  unfold diff
  exact rawDiff_apply x0 _ _ _ _ _ _ _ _ x2 x1 w hw r d hv
    (fun c => tile_apply x1 _ _ c d 0 _ rfl rfl)
    (fun c => tile_apply x1 _ _ c d 1024 _ rfl rfl)
    (fun c => tile_apply x1 _ _ c d 2048 _ rfl rfl)
    (fun c => tile_apply x1 _ _ c d 3072 _ rfl rfl)
    (fun c => tile_apply x1 _ _ c d 4096 _ rfl rfl)
    (fun c => tile_apply x1 _ _ c d 5120 _ rfl rfl)
    (fun c => tile_apply x1 _ _ c d 6144 _ rfl rfl)
    (fun c => tile_apply x1 _ _ c d 7168 _ rfl rfl)

/-- The first step leaves in its output block the input rows plus the difference. -/
theorem out_A_3 (c : Dev nD) (i : grid0.Coords) (arg1 : Memref sig .tc .vmem S1024 .f32) (harg1 : arg1.IsWhole)
    (arg2 : Memref sig .tc .vmem S8192x256 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1x1 .f32) (harg5 : arg5.IsWhole) (hc0 : cond0_0 i) (hc1 : ¬cond0_1 i)
    (x0 : FVec Ideal S1024 .f32) (x1 : FVec Ideal S8192x256 .bf16) (x2 : FVec Ideal S1024x256 .f32) :
    out0_A_3 (F := Ideal) c i arg1 harg1 arg2 harg2 arg3 harg3 arg4 harg4 arg5 harg5 hc0 hc1 x0 x1 x2 = addf x2 (diff x0 x1 x2) := by
  unfold out0_A_3
  rw [View.read_writes_eq_canon _ _ _ (cover0_A_3 (F := Ideal) c i arg1 harg1 arg2 harg2 arg3 harg3 arg4 harg4 arg5 harg5 hc0 hc1 x0 x1 x2)]
  unfold kernelRun0_A
  dsimp only
  sl_unfold_words
  rw [View.canon_unit_zero hz]
  unfold k0_pay8 k0_pay6 diff rawDiff tile
  simp only [View.readAt_eq_ld, harg1.read_unread, harg2.read_unread, harg3.read_unread, harg5.read_unread,
    View.ld_unit_zero (S := S1024) hz1, View.ld_unit_zero (S := S1024x256) hz, View.ld_unit_zero (S := S1x1) hz, shapeCast_self]

/-- So does every later step. -/
theorem out_B_3 (c : Dev nD) (i : grid0.Coords) (arg1 : Memref sig .tc .vmem S1024 .f32) (harg1 : arg1.IsWhole)
    (arg2 : Memref sig .tc .vmem S8192x256 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1x1 .f32) (harg5 : arg5.IsWhole) (hc0 : ¬cond0_0 i) (hc1 : cond0_1 i)
    (x0 : FVec Ideal S1024 .f32) (x1 : FVec Ideal S8192x256 .bf16) (x2 : FVec Ideal S1024x256 .f32) (xo : FVec Ideal S1x1 .f32) :
    out0_B_3 (F := Ideal) c i arg1 harg1 arg2 harg2 arg3 harg3 arg4 harg4 arg5 harg5 hc0 hc1 x0 x1 x2 xo = addf x2 (diff x0 x1 x2) := by
  unfold out0_B_3
  rw [View.read_writes_eq_canon _ _ _ (cover0_B_3 (F := Ideal) c i arg1 harg1 arg2 harg2 arg3 harg3 arg4 harg4 arg5 harg5 hc0 hc1 x0 x1 x2 xo)]
  unfold kernelRun0_B
  dsimp only
  sl_unfold_words
  rw [View.canon_unit_zero hz]
  unfold k0_pay8 k0_pay6 diff rawDiff tile
  simp only [View.readAt_eq_ld, harg1.read_unread, harg2.read_unread, harg3.read_unread, harg5.read_unread,
    View.ld_unit_zero (S := S1024) hz1, View.ld_unit_zero (S := S1024x256) hz, View.ld_unit_zero (S := S1x1) hz, shapeCast_self]

/-- The first step leaves its own loss total. -/
theorem out_A_4 (c : Dev nD) (i : grid0.Coords) (arg1 : Memref sig .tc .vmem S1024 .f32) (harg1 : arg1.IsWhole)
    (arg2 : Memref sig .tc .vmem S8192x256 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1x1 .f32) (harg5 : arg5.IsWhole) (hc0 : cond0_0 i) (hc1 : ¬cond0_1 i)
    (x0 : FVec Ideal S1024 .f32) (x1 : FVec Ideal S8192x256 .bf16) (x2 : FVec Ideal S1024x256 .f32) :
    out0_A_4 (F := Ideal) c i arg1 harg1 arg2 harg2 arg3 harg3 arg4 harg4 arg5 harg5 hc0 hc1 x0 x1 x2 = blockTotal (diff x0 x1 x2) := by
  unfold out0_A_4
  rw [View.read_writes_eq_canon _ _ _ (cover0_A_4 (F := Ideal) c i arg1 harg1 arg2 harg2 arg3 harg3 arg4 harg4 arg5 harg5 hc0 hc1 x0 x1 x2)]
  unfold kernelRun0_A
  dsimp only
  sl_unfold_words
  rw [View.canon_unit_zero hz]
  rw [pay9_eq]
  unfold diff rawDiff tile
  simp only [View.readAt_eq_ld, harg1.read_unread, harg2.read_unread, harg3.read_unread, harg5.read_unread,
    View.ld_unit_zero (S := S1024) hz1, View.ld_unit_zero (S := S1024x256) hz, View.ld_unit_zero (S := S1x1) hz, shapeCast_self]

/-- A later step adds its loss total to what the step before left. -/
theorem out_B_4 (c : Dev nD) (i : grid0.Coords) (arg1 : Memref sig .tc .vmem S1024 .f32) (harg1 : arg1.IsWhole)
    (arg2 : Memref sig .tc .vmem S8192x256 .bf16) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1x1 .f32) (harg5 : arg5.IsWhole) (hc0 : ¬cond0_0 i) (hc1 : cond0_1 i)
    (x0 : FVec Ideal S1024 .f32) (x1 : FVec Ideal S8192x256 .bf16) (x2 : FVec Ideal S1024x256 .f32) (xo : FVec Ideal S1x1 .f32) :
    out0_B_4 (F := Ideal) c i arg1 harg1 arg2 harg2 arg3 harg3 arg4 harg4 arg5 harg5 hc0 hc1 x0 x1 x2 xo = addf xo (blockTotal (diff x0 x1 x2)) := by
  unfold out0_B_4
  rw [View.read_writes_eq_canon _ _ _ (cover0_B_4 (F := Ideal) c i arg1 harg1 arg2 harg2 arg3 harg3 arg4 harg4 arg5 harg5 hc0 hc1 x0 x1 x2 xo)]
  unfold kernelRun0_B
  dsimp only
  sl_unfold_words
  rw [View.canon_unit_zero hz]
  rw [pay9_eq]
  unfold k0_pay1 diff rawDiff tile
  simp only [View.readAt_eq_ld, harg1.read_unread, harg2.read_unread, harg3.read_unread, harg5.read_unread,
    View.ld_unit_zero (S := S1024) hz1, View.ld_unit_zero (S := S1024x256) hz, View.ld_unit_zero (S := S1x1) hz, shapeCast_self]

end Cert.Vq.Ker

end
-- ==== Proof.Vq.KerVals.lean ====
/-
  What the kernel's host lines leave before the grid runs: the input rows, the positions of the nearest codes (as words,
  in the output's shape, and as numbers) and the table at its narrower format.
-/
module

public import proofs.«01_k».proof.Proof.Gen.KernelIdeal.Frame
public import Idealize.ShloMosaic.Lib.StableHlo.Run

@[expose] public section

noncomputable section

namespace Cert.Vq.Ker

open Cert.KernelIdeal Cert.KernelIdeal.Gen
open Idealize.ShloMosaic Idealize.ShloMosaic.TcCoe Idealize.ShloMosaic.StableHlo Idealize.SL.Sem

variable {F : FTy → Type} [FloatOps F]

/-- The input rows: the (16, 1024, 256) input read as (16384, 256). -/
def rows (z : FVec F S16x1024x256 .f32) : FVec F S16384x256 .f32 :=
  shapeCast S16384x256 z shapeCasts_S16x1024x256_S16384x256

/-- Every squared distance, as the kernel's host lines compute it. -/
def dist (z : FVec F S16x1024x256 .f32) (e : FVec F S8192x256 .f32) : FVec F S16384x8192 .f32 :=
  subf
    (addf
      (broadcastInDim S16384x8192 ![0, 1] bcast_S16384x1_S16384x8192_0_1
        (broadcastInDim S16384x1 ![0] bcast_S16384_S16384x1_0
          (Host.reduceAdd (mulf (rows z) (rows z)) (constant S_ .f32 0x00000000#32) reducesTo_S16384x256_S16384_d1 h_S_)))
      (broadcastInDim S16384x8192 ![0, 1] bcast_S1x8192_S16384x8192_0_1
        (broadcastInDim S1x8192 ![1] bcast_S8192_S1x8192_1
          (Host.reduceAdd (mulf e e) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none (rows z)
        (transpose S256x8192 [1, 0] e transposes_S8192x256_S256x8192_1_0)))

/-- The second components of an array of pairs. -/
def seconds {s : Shape} {α β : Type} (p : s.Idx → α × β) : s.Idx → β := fun j => (p j).2

/-- The position of the smallest entry of each row. -/
def argmin (d : FVec F S16384x8192 .f32) : IVec S16384 32 :=
  seconds (Host.argReduce reducer_argmin_f32_i32 d (iotaInDim S16384x8192 32 1) (constant S_ .f32 0x7F800000#32)
    (constantI S_ 32 0#32) reducesTo_S16384x8192_S16384_d1 h_S_)

/-- The position of the nearest code of each input row. -/
def codes (z : FVec F S16x1024x256 .f32) (e : FVec F S8192x256 .f32) : IVec S16384 32 := argmin (dist z e)

/-- Reading the distance buffer at its own type is reading it. -/
theorem of_v14 (a b c) (v : (main_v14 : Ref sig .tc).ty.Contents (Elt F)) :
    (TRef.of (T := ⟨S16384x8192, .f32⟩) (main_v14 : Ref sig .tc) a b c).ofBuf v = v := eq_of_heq (cast_heq _ _)
/-- Writing the position buffer at its own type is writing it. -/
theorem of_v15 (a b c) (v : (⟨S16384, .i32⟩ : BufTy).Contents (Elt F)) :
    (TRef.of (T := ⟨S16384, .i32⟩) (main_v15 : Ref sig .tc) a b c).toBuf v = v := eq_of_heq (cast_heq _ _)

/-- Two stretches of host lines run one after the other. -/
theorem after_two (l₁ l₂ : List (HloOp τ sig (Elt F))) (V : Valuation τ sig (Elt F)) :
    after (l₁ ++ l₂) V = after l₂ (after l₁ V) := by
  induction l₁ generalizing V with
  | nil => rfl
  | cons o l ih => exact ih _

/-- The three stretches before the grid, one after the other. -/
theorem after_three (l₁ l₂ l₃ : List (HloOp τ sig (Elt F))) (V : Valuation τ sig (Elt F)) :
    after (List.flatten [l₁, l₂, l₃]) V = after l₃ (after l₂ (after l₁ V)) := by
  rw [List.flatten_cons, after_two, List.flatten_cons, after_two, List.flatten_cons, List.flatten_nil, List.append_nil]

/-- The distance stage leaves the distances. -/
theorem dist_eq (V : Valuation τ sig (Elt F)) :
    after hostOps0 V (main_v14 : DevRef τ sig) = dist (V (main_arg0 : DevRef τ sig)) (V (main_arg1 : DevRef τ sig)) := by
  after_results
  rfl
/-- The distance stage leaves the input rows. -/
theorem dist_v0 (V : Valuation τ sig (Elt F)) :
    after hostOps0 V (main_v0 : DevRef τ sig) = rows (V (main_arg0 : DevRef τ sig)) := by
  after_results
  rfl
/-- The distance stage leaves the codes. -/
theorem dist_arg1 (V : Valuation τ sig (Elt F)) :
    after hostOps0 V (main_arg1 : DevRef τ sig) = V (main_arg1 : DevRef τ sig) := by
  after_results

/-- The search stage leaves the positions of the nearest codes. -/
theorem arg_eq (V : Valuation τ sig (Elt F)) :
    after hostOps0_1 V (main_v15 : DevRef τ sig) = argmin (V (main_v14 : DevRef τ sig)) := by
  after_results
  simp only [TRef.ofBuf_toBuf, of_v14, of_v15]
  rfl
/-- The search stage leaves the input rows. -/
theorem arg_v0 (V : Valuation τ sig (Elt F)) :
    after hostOps0_1 V (main_v0 : DevRef τ sig) = V (main_v0 : DevRef τ sig) := by
  after_results
/-- The search stage leaves the codes. -/
theorem arg_arg1 (V : Valuation τ sig (Elt F)) :
    after hostOps0_1 V (main_arg1 : DevRef τ sig) = V (main_arg1 : DevRef τ sig) := by
  after_results

/-- The last stage leaves the positions in the shape (16, 1024). -/
theorem conv_v16 (V : Valuation τ sig (Elt F)) :
    after hostOps0_2 V (main_v16 : DevRef τ sig)
      = shapeCast S16x1024 (V (main_v15 : DevRef τ sig)) shapeCasts_S16384_S16x1024 := by
  after_results
  rfl
/-- The last stage leaves the positions as numbers. -/
theorem conv_v17 (V : Valuation τ sig (Elt F)) :
    after hostOps0_2 V (main_v17 : DevRef τ sig) = sitofp .f32 (V (main_v15 : DevRef τ sig) : IVec S16384 32) := by
  after_results
/-- The last stage leaves the table at its narrower format. -/
theorem conv_v18 (V : Valuation τ sig (Elt F)) :
    after hostOps0_2 V (main_v18 : DevRef τ sig)
      = truncf .bf16 (V (main_arg1 : DevRef τ sig) : FVec F S8192x256 .f32) bitsLt_bf16_f32 := by
  after_results
/-- The last stage leaves the input rows. -/
theorem conv_v0 (V : Valuation τ sig (Elt F)) :
    after hostOps0_2 V (main_v0 : DevRef τ sig) = V (main_v0 : DevRef τ sig) := by
  after_results

variable (m : (ℓ : Loc nD τ sig) → Buf (Elt F) ℓ)

/-- The kernel's input on device `c`. -/
abbrev inZ (c : Dev nD) : FVec F S16x1024x256 .f32 := m ((c : Thread nD τ).loc main_arg0)
/-- The kernel's table on device `c`. -/
abbrev inE (c : Dev nD) : FVec F S8192x256 .f32 := m ((c : Thread nD τ).loc main_arg1)

/-- Before the grid: the input rows. -/
theorem V0_v0 (c : Dev nD) : V0 m c (main_v0 : DevRef τ sig) = rows (inZ m c) := by
  unfold V0
  rw [after_three, conv_v0, arg_v0, dist_v0]
/-- Before the grid: the positions of the nearest codes, in the output's shape. -/
theorem V0_v16 (c : Dev nD) :
    V0 m c (main_v16 : DevRef τ sig) = shapeCast S16x1024 (codes (inZ m c) (inE m c)) shapeCasts_S16384_S16x1024 := by
  unfold V0
  rw [after_three, conv_v16, arg_eq, dist_eq, codes]
/-- Before the grid: the positions of the nearest codes, as numbers. -/
theorem V0_v17 (c : Dev nD) : V0 m c (main_v17 : DevRef τ sig) = sitofp .f32 (codes (inZ m c) (inE m c)) := by
  unfold V0
  rw [after_three, conv_v17, arg_eq, dist_eq, codes]
/-- Before the grid: the table at its narrower format. -/
theorem V0_v18 (c : Dev nD) : V0 m c (main_v18 : DevRef τ sig) = truncf .bf16 (inE m c) bitsLt_bf16_f32 := by
  unfold V0
  rw [after_three, conv_v18, arg_arg1, dist_arg1]

end Cert.Vq.Ker

end
-- ==== Proof.Vq.Places.lean ====
/-
  Where each grid step's blocks lie in their arrays: step `t` reads and writes rows `1024·t` to `1024·t + 1023`; the table and
  the loss total are one block each.
-/
module

public import proofs.«01_k».proof.Proof.Gen.KernelIdeal.Frame
public import Idealize.ShloMosaic.Lib.Pipeline.Value
public import Idealize.ShloMosaic.Lib.ValueIdxCore

@[expose] public section

noncomputable section

namespace Cert.Vq.Ker

open Cert.KernelIdeal Cert.KernelIdeal.Gen
open Idealize.ShloMosaic Idealize.ShloMosaic.TcCoe Idealize.ShloMosaic.ValueIdx Idealize.SL.Sem

/-- The array row that is row `r` of block `n`. -/
def place (n : Nat) (h : n < 16) (r : Fin 1024) : Fin 16384 := ⟨1024 * n + r.val, by have := r.isLt; omega⟩

/-- There are sixteen grid steps. -/
theorem step_lt (t : Fin cfg0.N) : t.val < 16 := lt_of_lt_of_eq t.isLt (show cfg0.N = 16 from N_0)

/-- The positions' block number at step `t`. -/
theorem idx0 : ∀ t : Fin cfg0.N, win0_0.index t 0 = t.val := by decide +kernel
/-- The table's block number. -/
theorem idx1 : ∀ t : Fin cfg0.N, win0_1.index t 0 = 0 ∧ win0_1.index t 1 = 0 := by decide +kernel
/-- The input rows' block number at step `t`. -/
theorem idx2 : ∀ t : Fin cfg0.N, win0_2.index t 0 = t.val ∧ win0_2.index t 1 = 0 := by decide +kernel
/-- The output rows' block number at step `t`. -/
theorem idx3 : ∀ t : Fin cfg0.N, win0_3.index t 0 = t.val ∧ win0_3.index t 1 = 0 := by decide +kernel
/-- The loss total's block number. -/
theorem idx4 : ∀ t : Fin cfg0.N, win0_4.index t 0 = 0 ∧ win0_4.index t 1 = 0 := by decide +kernel

/-- Where row `r` of the positions' block lies. -/
theorem emb0 (t : Fin cfg0.N) (r : Fin 1024) :
    ((cfg0.win 0).blk t).view.emb (ix1 r) = ix1 (place t.val (step_lt t) r) := by
  funext a
  apply Fin.ext
  match a with
  | ⟨0, _⟩ => show win0_0.index t 0 * 1024 + 1 * r.val = 1024 * t.val + r.val; rw [idx0]; omega
/-- Where an entry of the table's block lies. -/
theorem emb1 (t : Fin cfg0.N) (k : Fin 8192) (d : Fin 256) :
    ((cfg0.win 1).blk t).view.emb (ix2 k d) = ix2 k d := by
  funext a
  apply Fin.ext
  match a with
  | ⟨0, _⟩ => show win0_1.index t 0 * 8192 + 1 * k.val = k.val; rw [(idx1 t).1]; omega
  | ⟨1, _⟩ => show win0_1.index t 1 * 256 + 1 * d.val = d.val; rw [(idx1 t).2]; omega
/-- Where an entry of the input rows' block lies. -/
theorem emb2 (t : Fin cfg0.N) (r : Fin 1024) (d : Fin 256) :
    ((cfg0.win 2).blk t).view.emb (ix2 r d) = ix2 (place t.val (step_lt t) r) d := by
  funext a
  apply Fin.ext
  match a with
  | ⟨0, _⟩ => show win0_2.index t 0 * 1024 + 1 * r.val = 1024 * t.val + r.val; rw [(idx2 t).1]; omega
  | ⟨1, _⟩ => show win0_2.index t 1 * 256 + 1 * d.val = d.val; rw [(idx2 t).2]; omega
/-- Where an entry of the output rows' block lies. -/
theorem emb3 (t : Fin cfg0.N) (r : Fin 1024) (d : Fin 256) :
    ((cfg0.win 3).blk t).view.emb (ix2 r d) = ix2 (place t.val (step_lt t) r) d := by
  funext a
  apply Fin.ext
  match a with
  | ⟨0, _⟩ => show win0_3.index t 0 * 1024 + 1 * r.val = 1024 * t.val + r.val; rw [(idx3 t).1]; omega
  | ⟨1, _⟩ => show win0_3.index t 1 * 256 + 1 * d.val = d.val; rw [(idx3 t).2]; omega
/-- Where the loss total lies. -/
theorem emb4 (t : Fin cfg0.N) (r d : Fin 1) : ((cfg0.win 4).blk t).view.emb (ix2 r d) = ix2 r d := by
  funext a
  apply Fin.ext
  match a with
  | ⟨0, _⟩ => show win0_4.index t 0 * 1 + 1 * r.val = r.val; rw [(idx4 t).1]; omega
  | ⟨1, _⟩ => show win0_4.index t 1 * 1 + 1 * d.val = d.val; rw [(idx4 t).2]; omega

/-- An index that a view's own index lands on is one of the view's. -/
theorem mem_of_emb {κ : Kind} {sp : Space} {S : Shape} {e : EltTy} (v : View sig κ sp S e) (j : S.Idx)
    (i : v.ty.Idx) (h : v.emb j = i) : i ∈ v.set := h ▸ v.emb_mem_set j

/-- Every output row lies in the block of some step, and every step writes its block back. -/
theorem cover3 (i : S16384x256.Idx) :
    ∃ t : Fin cfg0.N, (cfg0.win 3).flush t = true ∧ i ∈ ((cfg0.win 3).blk t).view.set := by
  have h0 : (i 0).val < 16384 := (i 0).isLt
  have hN : cfg0.N = 16 := N_0
  have hb : (i 0).val / 1024 < 16 := by omega
  have hq : (i 0).val / 1024 < cfg0.N := hN ▸ hb
  refine ⟨⟨(i 0).val / 1024, hq⟩, flush0_3 _, ?_⟩
  have e : ix2 (place ((i 0).val / 1024) (step_lt ⟨(i 0).val / 1024, hq⟩) ⟨(i 0).val % 1024, Nat.mod_lt _ (by norm_num)⟩)
      (i 1 : Fin 256) = i := by
    funext a
    apply Fin.ext
    match a with
    | ⟨0, _⟩ => show 1024 * ((i 0).val / 1024) + (i 0).val % 1024 = (i 0).val; omega
    | ⟨1, _⟩ => rfl
  exact mem_of_emb ((cfg0.win 3).blk ⟨(i 0).val / 1024, hq⟩).view _ i
    ((emb3 ⟨(i 0).val / 1024, hq⟩ ⟨(i 0).val % 1024, Nat.mod_lt _ (by norm_num)⟩ (i 1)).trans e)

/-- The last step writes the loss total back. -/
theorem cover4 (i : S1x1.Idx) :
    ∃ t : Fin cfg0.N, (cfg0.win 4).flush t = true ∧ i ∈ ((cfg0.win 4).blk t).view.set := by
  have hN : cfg0.N = 16 := N_0
  have hq : 15 < cfg0.N := hN ▸ (by norm_num : 15 < 16)
  refine ⟨⟨15, hq⟩, (flush0_4 _).mpr rfl, ?_⟩
  exact mem_of_emb ((cfg0.win 4).blk ⟨15, hq⟩).view _ i
    ((emb4 ⟨15, hq⟩ (i 0) (i 1)).trans (eq_ix2 i).symm)

end Cert.Vq.Ker

end
-- ==== Proof.Vq.Arrays.lean ====
/-
  What the grid leaves in its two result arrays: every straight-through row, and the total of the squared differences.
-/
module

public import proofs.«01_k».proof.Proof.Vq.Block
public import proofs.«01_k».proof.Proof.Vq.KerVals
public import proofs.«01_k».proof.Proof.Vq.Places

@[expose] public section

noncomputable section

namespace Cert.Vq.Ker

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The looked up row minus the input row, at row `p` and column `d` of the whole input. -/
def delta (z : FVec Ideal S16x1024x256 .f32) (e : FVec Ideal S8192x256 .f32) (p : Fin 16384) (d : Fin 256) : EReal :=
  (e (ix2 (rowOf (codes z e (ix1 p))) d) : EReal) - rows z (ix2 p d)

/-- The total of the squared differences over block `n` of the rows. -/
def part (z : FVec Ideal S16x1024x256 .f32) (e : FVec Ideal S8192x256 .f32) (n : ℕ) : EReal :=
  if h : n < 16 then ∑ r : Fin 1024, ∑ d : Fin 256, delta z e (place n h r) d * delta z e (place n h r) d else 0

/-- The straight-through rows. -/
def outRows (z : FVec Ideal S16x1024x256 .f32) (e : FVec Ideal S8192x256 .f32) : FVec Ideal S16384x256 .f32 :=
  fun j => (rows z (ix2 (j 0 : Fin 16384) (j 1 : Fin 256)) : EReal) + delta z e (j 0) (j 1)

/-- The total of the squared differences. -/
def outTotal (z : FVec Ideal S16x1024x256 .f32) (e : FVec Ideal S8192x256 .f32) : FVec Ideal S1x1 .f32 :=
  fun _ => ∑ n ∈ Finset.range 16, part z e n

variable (m : (ℓ : Loc nD τ sig) → Buf (Elt Ideal) ℓ)

/-- The positions' block at step `t`, as numbers. -/
theorem blk0 (c : Dev nD) (t : Fin cfg0.N) (r : Fin 1024) :
    (iblk m c 0 t : FVec Ideal S1024 .f32) (ix1 r)
      = (((codes (inZ m c) (inE m c) (ix1 (place t.val (step_lt t) r))).toInt : ℝ) : EReal) := by
  unfold iblk
  rw [View.read_apply]
  refine (congrArg (V m c main_v17) (emb0 t r)).trans ?_
  exact congrFun (V0_v17 m c) _

/-- The table's block is the table. -/
theorem blk1 (c : Dev nD) (t : Fin cfg0.N) (k : Fin 8192) (d : Fin 256) :
    (iblk m c 1 t : FVec Ideal S8192x256 .bf16) (ix2 k d) = inE m c (ix2 k d) := by
  unfold iblk
  rw [View.read_apply]
  refine (congrArg (V m c main_v18) (emb1 t k d)).trans ?_
  exact congrFun (V0_v18 m c) _

/-- The input rows' block at step `t`. -/
theorem blk2 (c : Dev nD) (t : Fin cfg0.N) (r : Fin 1024) (d : Fin 256) :
    (iblk m c 2 t : FVec Ideal S1024x256 .f32) (ix2 r d) = rows (inZ m c) (ix2 (place t.val (step_lt t) r) d) := by
  unfold iblk
  rw [View.read_apply]
  refine (congrArg (V m c main_v0) (emb2 t r d)).trans ?_
  exact congrFun (V0_v0 m c) _

/-- What the first step leaves in the two output blocks. -/
theorem step_A (c : Dev nD) (t : Fin cfg0.N) (h0 : t.val % 16 = 0) (h1 : ¬1 ≤ t.val) :
    outsAt0 m c t.val t.isLt
      = (addf (F := Ideal) (φ := .f32) (iblk m c 2 t) (diff (iblk m c 0 t) (iblk m c 1 t) (iblk m c 2 t)), blockTotal (diff (iblk m c 0 t) (iblk m c 1 t) (iblk m c 2 t))) :=
  (outsAt0_A m c t h0 h1).trans (congrArg₂ Prod.mk
    (out_A_3 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t))
    (out_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t)))

/-- What a later step leaves in the two output blocks. -/
theorem step_B (c : Dev nD) (t : Fin cfg0.N) (h0 : ¬t.val % 16 = 0) (h1 : 1 ≤ t.val) :
    outsAt0 m c t.val t.isLt
      = (addf (F := Ideal) (φ := .f32) (iblk m c 2 t) (diff (iblk m c 0 t) (iblk m c 1 t) (iblk m c 2 t)),
        addf (F := Ideal) (φ := .f32) (outsAt0 m c (t.val - 1) (Nat.lt_of_le_of_lt (Nat.sub_le _ _) t.isLt)).2
          (blockTotal (diff (iblk m c 0 t) (iblk m c 1 t) (iblk m c 2 t)))) :=
  (outsAt0_B m c t h0 h1).trans (congrArg₂ Prod.mk
    (out_B_3 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2)
    (out_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2))

variable (hlt : ∀ (c : Dev nD) (j : S16384.Idx), (codes (inZ m c) (inE m c) j).toNat < 8192)
include hlt

/-- A step's difference is the whole input's difference at the step's rows. -/
theorem diff_blk (c : Dev nD) (t : Fin cfg0.N) (r : Fin 1024) (d : Fin 256) :
    diff (iblk m c 0 t) (iblk m c 1 t) (iblk m c 2 t) (ix2 r d)
      = delta (inZ m c) (inE m c) (place t.val (step_lt t) r) d := by
  refine (diff_apply (iblk m c 0 t) (iblk m c 1 t) (iblk m c 2 t) _ (hlt c (ix1 (place t.val (step_lt t) r))) r d
    (blk0 m c t r)).trans ?_
  rw [blk1, blk2]
  rfl

/-- A step's part of the loss is the total over the step's rows. -/
theorem total_blk (c : Dev nD) (t : Fin cfg0.N) (i : S1x1.Idx) :
    blockTotal (diff (iblk m c 0 t) (iblk m c 1 t) (iblk m c 2 t)) i = part (inZ m c) (inE m c) t.val := by
  rw [blockTotal_apply]
  unfold part
  rw [dif_pos (step_lt t)]
  refine Finset.sum_congr rfl fun r _ => Finset.sum_congr rfl fun d _ => ?_
  rw [diff_blk m hlt]

/-- Every step leaves the straight-through rows in its output block. -/
theorem outs_fst (c : Dev nD) (t : Fin cfg0.N) (r : Fin 1024) (d : Fin 256) :
    (outsAt0 m c t.val t.isLt).1 (ix2 r d) = outRows (inZ m c) (inE m c) (ix2 (place t.val (step_lt t) r) d) := by
  have key : ∀ X : FVec Ideal S1024x256 .f32,
      X = addf (iblk m c 2 t) (diff (iblk m c 0 t) (iblk m c 1 t) (iblk m c 2 t)) →
      X (ix2 r d) = outRows (inZ m c) (inE m c) (ix2 (place t.val (step_lt t) r) d) := by
    intro X hX
    rw [hX, addf_apply, blk2, diff_blk m hlt]
    rfl
  have hs := step_lt t
  by_cases h : t.val = 0
  · exact key _ (congrArg Prod.fst (step_A m c t (by omega) (by omega)))
  · exact key _ (congrArg Prod.fst (step_B m c t (by omega) (by omega)))

/-- After step `n` the second output block holds the total over the blocks so far. -/
theorem outs_snd (c : Dev nD) (i : S1x1.Idx) : ∀ (n : ℕ) (h : n < cfg0.N),
    (outsAt0 m c n h).2 i = ∑ s ∈ Finset.range (n + 1), part (inZ m c) (inE m c) s
  | 0, h => by
    rw [Finset.sum_range_one, ← total_blk m hlt c ⟨0, h⟩ i]
    exact congrFun (congrArg Prod.snd (step_A m c ⟨0, h⟩ rfl (by norm_num))) i
  | n + 1, h => by
    rw [Finset.sum_range_succ, ← total_blk m hlt c ⟨n + 1, h⟩ i, ← outs_snd c i n (Nat.lt_of_succ_lt h)]
    have hs := step_lt ⟨n + 1, h⟩
    exact congrFun (congrArg Prod.snd (step_B m c ⟨n + 1, h⟩ (by dsimp only at hs ⊢; omega) (by dsimp only; omega))) i

/-- What each step writes back of the output rows. -/
theorem flushed3 (c : Dev nD) (t : Fin cfg0.N) :
    (dats m 0 c).flushed 3 t = ((cfg0.win 3).blk t).view.read (Elt Ideal) (outRows (inZ m c) (inE m c)) := by
  show (cfg0.win 3).cut (grid0.coords t) ((dats m 0 c).after 3 t) = _
  rw [after0_3]
  funext j
  rw [View.read_apply]
  refine (congrArg (outsAt0 m c t.val t.isLt).1 (eq_ix2 j)).trans ((outs_fst m hlt c t (j 0) (j 1)).trans ?_)
  exact congrArg (outRows (inZ m c) (inE m c)) ((emb3 t (j 0) (j 1)).symm.trans (congrArg _ (eq_ix2 j).symm))

/-- What the last step writes back of the loss total. -/
theorem flushed4 (c : Dev nD) (t : Fin cfg0.N) (hf : (cfg0.win 4).flush t = true) :
    (dats m 0 c).flushed 4 t = ((cfg0.win 4).blk t).view.read (Elt Ideal) (outTotal (inZ m c) (inE m c)) := by
  have h15 : t.val = 15 := by have := (flush0_4 t).mp hf; have := step_lt t; omega
  show (cfg0.win 4).cut (grid0.coords t) ((dats m 0 c).after 4 t) = _
  rw [after0_4]
  funext j
  rw [View.read_apply]
  refine (outs_snd m hlt c j t.val t.isLt).trans ?_
  rw [h15]
  rfl

/-- The output rows' array after the grid. -/
theorem final3 (c : Dev nD) : (dats m 0 c).arrAt 3 cfg0.N = outRows (inZ m c) (inE m c) :=
  (dats m 0 c).arrAt_eq_of_cover 3 (outRows (inZ m c) (inE m c)) (fun t _ => flushed3 m hlt c t) cover3

/-- The loss total's array after the grid. -/
theorem final4 (c : Dev nD) : (dats m 0 c).arrAt 4 cfg0.N = outTotal (inZ m c) (inE m c) :=
  (dats m 0 c).arrAt_eq_of_cover 4 (outTotal (inZ m c) (inE m c)) (fun t h => flushed4 m hlt c t h) cover4

end Cert.Vq.Ker

end
-- ==== Proof.Vq.KerRun.lean ====
/-
  The kernel's run: it terminates and leaves the three results as closed array terms, the inputs unchanged.
-/
module

public import proofs.«01_k».proof.Proof.Vq.Arrays

@[expose] public section

noncomputable section

namespace Cert.Vq.Ker

open Cert.KernelIdeal Cert.KernelIdeal.Gen
open Idealize.ShloMosaic Idealize.ShloMosaic.TcCoe Idealize.ShloMosaic.StableHlo Idealize.SL.Sem
open Idealize.ShloMosaic.Pipeline (Dat)

section
variable {F : FTy → Type} [FloatOps F]

/-- The loss from the grid's total: its mean, a quarter of it. -/
def lossOf (t : FVec F S1x1 .f32) : FVec F S_ .f32 :=
  mulf (Host.divf (shapeCast S_ t shapeCasts_S1x1_S_) (constant S_ .f32 0x4A800000#32)) (constant S_ .f32 0x3E800000#32)

/-- The closing lines leave the grid's rows in the input's shape. -/
theorem tail_v20 (V : Valuation τ sig (Elt F)) :
    after hostOps1 V (main_v20 : DevRef τ sig)
      = shapeCast S16x1024x256 (V (main_v19_0 : DevRef τ sig)) shapeCasts_S16384x256_S16x1024x256 := by
  after_results
  rfl
/-- The closing lines leave the loss. -/
theorem tail_v23 (V : Valuation τ sig (Elt F)) :
    after hostOps1 V (main_v23 : DevRef τ sig) = lossOf (V (main_v19_1 : DevRef τ sig)) := by
  after_results
  rfl
/-- The closing lines leave the positions. -/
theorem tail_v16 (V : Valuation τ sig (Elt F)) :
    after hostOps1 V (main_v16 : DevRef τ sig) = V (main_v16 : DevRef τ sig) := by
  after_results
end

variable (m : (ℓ : Loc nD τ sig) → Buf (Elt Ideal) ℓ) (ρ : Dev nD → PrngReg)
variable (hlt : ∀ (c : Dev nD) (j : S16384.Idx), (codes (inZ m c) (inE m c) j).toNat < 8192)

/-- No two windows share an array. -/
theorem arr_inj : Function.Injective (Pipeline.arrRef spec0) := by decide

/-- The single stretch of closing lines is that stretch. -/
theorem flatten_one {α : Type} (l : List α) : List.flatten [l] = l := by simp

/-- The contents after the grid. -/
abbrev exitV (c : Dev nD) : Valuation τ sig (Elt Ideal) :=
  Pipeline.withArrays spec0 c (V0 m c) fun w => (dats m 0 c).arrAt w cfg0.N

include hlt in
/-- After the grid: the straight-through rows. -/
theorem exit_rows (c : Dev nD) : exitV m c (main_v19_0 : DevRef τ sig) = outRows (inZ m c) (inE m c) :=
  (Pipeline.withArrays_arr spec0 arr_inj c (V0 m c) (fun w => (dats m 0 c).arrAt w cfg0.N) 3).trans (final3 m hlt c)
include hlt in
/-- After the grid: the loss total. -/
theorem exit_total (c : Dev nD) : exitV m c (main_v19_1 : DevRef τ sig) = outTotal (inZ m c) (inE m c) :=
  (Pipeline.withArrays_arr spec0 arr_inj c (V0 m c) (fun w => (dats m 0 c).arrAt w cfg0.N) 4).trans (final4 m hlt c)
/-- After the grid: the positions, as before it. -/
theorem exit_codes (c : Dev nD) :
    exitV m c (main_v16 : DevRef τ sig) = shapeCast S16x1024 (codes (inZ m c) (inE m c)) shapeCasts_S16384_S16x1024 :=
  (Pipeline.withArrays_of_ne spec0 c (V0 m c) (fun w => (dats m 0 c).arrAt w cfg0.N) main_v16
    (by exact (by decide : ∀ w, Pipeline.arrRef spec0 w ≠ main_v16))).trans (V0_v16 m c)

/-- The contents at the end, buffer by buffer: the closing lines over the contents after the grid. -/
theorem end_eq (c : Dev nD) (b : Ref sig .tc) :
    Pipeline.afterTail₀ cfgs (dats m) 0 (V0 m) [hostOps1] c b = after hostOps1 (exitV m c) (Proc.devRef .tc b) := by
  unfold Pipeline.afterTail₀
  rw [flatten_one]

include hlt in
/-- From any memory with zero counters the kernel terminates, with its three results and its unchanged inputs. -/
theorem run_values : θ_run defs (onTc (τ := τ) (main (F := Ideal))) ⟨m, fun _ => 0, ρ⟩ fun r => ∀ c : Dev nD,
      r.2.mem ((c.tc : Thread nD τ).loc main_v20)
        = shapeCast S16x1024x256 (outRows (inZ m c) (inE m c)) shapeCasts_S16384x256_S16x1024x256
      ∧ r.2.mem ((c.tc : Thread nD τ).loc main_v16)
        = shapeCast S16x1024 (codes (inZ m c) (inE m c)) shapeCasts_S16384_S16x1024
      ∧ r.2.mem ((c.tc : Thread nD τ).loc main_v23) = lossOf (outTotal (inZ m c) (inE m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v20 (Pipeline.mem_restRefs_of main_v20 (by decide) (by decide))).trans
          ((end_eq m c main_v20).trans ((tail_v20 _).trans
            (congrArg (fun x : FVec Ideal S16384x256 .f32 => shapeCast S16x1024x256 x shapeCasts_S16384x256_S16x1024x256)
              (exit_rows m hlt c)))),
        ((h c).2 main_v16 (Pipeline.mem_restRefs_of main_v16 (by decide) (by decide))).trans
          ((end_eq m c main_v16).trans ((tail_v16 _).trans (exit_codes m c))),
        ((h c).2 main_v23 (Pipeline.mem_restRefs_of main_v23 (by decide) (by decide))).trans
          ((end_eq m c main_v23).trans ((tail_v23 _).trans (congrArg lossOf (exit_total m hlt c)))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Vq.Ker

end
-- ==== Proof.Vq.Argmin.lean ====
/-
  The nearest-code search returns a position in the table: every position is below 8192.
-/
module

public import proofs.«01_k».proof.Proof.Vq.RefRun
public import Idealize.ShloMosaic.Lib.IdealHost

@[expose] public section

noncomputable section

namespace Cert.Vq.Ref

open Cert.ReferenceIdeal Cert.ReferenceIdeal.Gen
open Idealize.ShloMosaic Idealize.ShloMosaic.TcCoe Idealize.SL.Sem

/-- The pairwise comparison returns one of the two positions it compares. -/
theorem reducer_snd (a b : Ideal .f32 × BitVec 32) :
    (reducer_argmin_f32_i32 a b).2 = a.2 ∨ (reducer_argmin_f32_i32 a b).2 = b.2 := by
  unfold reducer_argmin_f32_i32
  simp only [Scalar.select]
  split
  · exact .inl rfl
  · exact .inr rfl

/-- Comparing one by one along a list of candidates keeps a bound that the start and every candidate meet. -/
theorem foldl_snd_lt {n : Nat} (f : Ideal .f32 × BitVec 32 → Ideal .f32 × BitVec 32 → Ideal .f32 × BitVec 32)
    (hf : ∀ a b, (f a b).2 = a.2 ∨ (f a b).2 = b.2) (l : List (Ideal .f32 × BitVec 32)) (a : Ideal .f32 × BitVec 32)
    (ha : a.2.toNat < n) (hl : ∀ p ∈ l, p.2.toNat < n) : (l.foldl f a).2.toNat < n := by
  induction l generalizing a with
  | nil => exact ha
  | cons p l ih =>
    refine ih _ ?_ fun q hq => hl q (List.mem_cons_of_mem _ hq)
    rcases hf a p with h | h
    · rw [h]; exact ha
    · rw [h]; exact hl p List.mem_cons_self

/-- A search whose comparison returns one of its two positions returns a position that meets every bound that the
    candidates and the start meet. -/
theorem argReduce_snd_lt {n : Nat} {s t u : Shape} {axes : List (Fin s.rank)}
    (f : Ideal .f32 × BitVec 32 → Ideal .f32 × BitVec 32 → Ideal .f32 × BitVec 32)
    (hf : ∀ a b, (f a b).2 = a.2 ∨ (f a b).2 = b.2) (x : FVec Ideal s .f32) (y : IVec s 32) (ix : FVec Ideal u .f32)
    (iy : IVec u 32) (h : s.ReducesTo axes t) (hu : 0 < u.numel) (j : t.Idx) (hy : ∀ i, (y i).toNat < n)
    (hi : ∀ i, (iy i).toNat < n) : (seconds (Host.argReduce f x y ix iy h hu) j).toNat < n := by
  show (Host.argReduce f x y ix iy h hu j).2.toNat < n
  rw [Ideal.argReduce_eq_reduce2, Host.reduce2_eq_foldl_fiber]
  refine foldl_snd_lt f hf _ _ (hi _) ?_
  intro p hp
  unfold Host.argReduceFiber at hp
  obtain ⟨k, -, rfl⟩ := List.mem_map.1 hp
  exact hy _

/-- A coordinate of an array with fewer than 2³² entries along an axis, read as a word, is the coordinate. -/
theorem iota_lt {T : Shape} (d : Fin T.rank) (n : Nat) (h : T.size d ≤ n) (i : T.Idx) :
    (iotaInDim T 32 d i).toNat < n := by
  have h1 : iotaInDim T 32 d i = BitVec.ofNat 32 (i d).val := rfl
  rw [h1, BitVec.toNat_ofNat]
  exact lt_of_le_of_lt (Nat.mod_le _ _) (lt_of_lt_of_le (i d).isLt h)

/-- Every position the search returns is a row of the table. -/
theorem argmin_lt (d : FVec Ideal S16384x8192 .f32) (j : S16384.Idx) : (argmin d j).toNat < 8192 :=
  argReduce_snd_lt reducer_argmin_f32_i32 reducer_snd d _ _ _ _ _ j
    (iota_lt (T := S16384x8192) 1 8192 (le_refl 8192)) (fun _ => by show (0#32).toNat < 8192; decide)

/-- Every code is a row of the table. -/
theorem codes_lt (z : FVec Ideal S16x1024x256 .f32) (e : FVec Ideal S8192x256 .f32) (j : S16384.Idx) :
    (codes z e j).toNat < 8192 := argmin_lt _ _

end Cert.Vq.Ref

end
-- ==== Proof.Vq.Take.lean ====
/-
  The reference's row lookup at positions inside the table is the plain lookup.
-/
module

public import proofs.«01_k».proof.Proof.Vq.RefRun
public import proofs.«01_k».proof.Proof.Vq.Row
public import Idealize.ShloMosaic.Lib.IdealHost
public import Idealize.ShloMosaic.Lib.ValueIdxCore
public import Idealize.ShloMosaic.Lib.WordCmp
public import Idealize.ShloMosaic.Lib.ReduceAll
public import Idealize.ShloMosaic.Lib.Pipeline.Value

@[expose] public section

noncomputable section

namespace Cert.Vq.Ref

open Cert.ReferenceIdeal Cert.ReferenceIdeal.Gen
open Idealize.ShloMosaic Idealize.ShloMosaic.TcCoe Idealize.ShloMosaic.ValueIdx Idealize.SL.Sem

/-- The plain lookup: row `r` of the result is the table's row at the `r`-th position. -/
def picked (e : FVec Ideal S8192x256 .f32) (i : IVec S16384 32) : FVec Ideal S16384x256 .f32 :=
  fun j => e (ix2 (rowOf (i (ix1 (j 0)))) (j 1))

/-- A small position read as a signed number is itself. -/
theorem toInt_small (w : BitVec 32) (h : w.toNat < 8192) : w.toInt = (w.toNat : Int) := by
  rw [BitVec.toInt_eq_toNat_of_lt (by omega)]

/-- A small position is not below zero. -/
theorem not_slt (w : BitVec 32) (h : w.toNat < 8192) : IntOp.cmpi .slt w 0#32 = 0#1 := by
  have : ¬ w.toInt < (0#32).toInt := by rw [toInt_small w h]; simp
  show BitVec.ofBool (decide (w.toInt < (0#32).toInt)) = 0#1
  rw [decide_eq_false this]; rfl
/-- A small position is at least zero. -/
theorem sge_zero (w : BitVec 32) (h : w.toNat < 8192) : IntOp.cmpi .sge w 0#32 = 1#1 := by
  have : (0#32).toInt ≤ w.toInt := by rw [toInt_small w h]; simp
  show BitVec.ofBool (decide ((0#32).toInt ≤ w.toInt)) = 1#1
  rw [decide_eq_true this]; rfl
/-- A small position is at most the last row. -/
theorem sle_last (w : BitVec 32) (h : w.toNat < 8192) : IntOp.cmpi .sle w 8191#32 = 1#1 := by
  have : w.toInt ≤ (8191#32).toInt := by
    rw [toInt_small w h, show (8191#32).toInt = 8191 by decide]; omega
  show BitVec.ofBool (decide (w.toInt ≤ (8191#32).toInt)) = 1#1
  rw [decide_eq_true this]; rfl

/-- A small position is not wrapped. -/
theorem wrapped_apply (i : IVec S16384 32) (hi : ∀ k, (i k).toNat < 8192) (j : S16384x1.Idx) :
    wrapped i j = i (ix1 (j 0)) := by
  unfold wrapped
  refine (broadcastInDim_apply (s := S16384) (t := S16384x1) _ _ _ j (ix1 (j 0))
    (fun a => by match a with | ⟨0, _⟩ => rfl)).trans ?_
  show Scalar.select (IntOp.cmpi .slt (i (ix1 (j 0))) 0#32) _ (i (ix1 (j 0))) = _
  rw [not_slt _ (hi _)]
  rfl

/-- Every small position lies in the table. -/
theorem inTable_apply (i : IVec S16384 32) (hi : ∀ k, (i k).toNat < 8192) (j : S16384.Idx) : inTable i j = 1#1 := by
  unfold inTable
  refine Host.reduce_andi_one _ _ _ _ j rfl fun k => ?_
  show IntOp.andi (IntOp.cmpi .sge (wrapped i k) 0#32) (IntOp.cmpi .sle (wrapped i k) 8191#32) = 1#1
  rw [wrapped_apply i hi, sge_zero _ (hi _), sle_last _ (hi _)]
  rfl

/-- The gather reads the table's row at the position, held inside the table, at the same column. -/
theorem gather_apply (e : FVec Ideal S8192x256 .f32) (idx : IVec S16384x1 32) (y : S16384x256.Idx) :
    Host.gather gather_S8192x256_S16384x1_S16384x256_1_0_n_n_0_1_1256 e idx y
      = e (ix2 ⟨min (idx (ix2 (y 0) 0)).toInt.toNat 8191, by omega⟩ (y 1)) := by
  unfold Host.gather
  congr 1
  funext a
  refine Fin.ext ?_
  show gather_S8192x256_S16384x1_S16384x256_1_0_n_n_0_1_1256.start y idx a
      + gather_S8192x256_S16384x1_S16384x256_1_0_n_n_0_1_1256.batchCoord y a
      + gather_S8192x256_S16384x1_S16384x256_1_0_n_n_0_1_1256.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x256_S16384x1_S16384x256_1_0_n_n_0_1_1256.startIndexMap from
      List.mem_singleton.mpr rfl)]
    have hsi : gather_S8192x256_S16384x1_S16384x256_1_0_n_n_0_1_1256.siIdx y
        ⟨List.idxOf (0 : Fin 2) gather_S8192x256_S16384x1_S16384x256_1_0_n_n_0_1_1256.startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  · rw [GatherDims.batchCoord_eq_zero _ _ _ (fun h => List.not_mem_nil h)]
    unfold GatherDims.start
    rw [dif_neg (show (1 : Fin 2) ∉ gather_S8192x256_S16384x1_S16384x256_1_0_n_n_0_1_1256.startIndexMap from by decide)]
    simp only [Nat.zero_add, Nat.add_zero]
    rfl

/-- At positions inside the table the reference's lookup is the plain lookup. -/
theorem take_picked (e : FVec Ideal S8192x256 .f32) (i : IVec S16384 32) (hi : ∀ k, (i k).toNat < 8192) :
    take e i = picked e i := by
  funext j
  unfold take
  have hb : broadcastInDim S16384x256 ![0] bcast_S16384_S16384x256_0 (inTable i) j = 1#1 :=
    (broadcastInDim_apply (s := S16384) (t := S16384x256) _ _ _ j (ix1 (j 0))
      (fun a => by match a with | ⟨0, _⟩ => rfl)).trans (inTable_apply i hi _)
  show Scalar.select (broadcastInDim S16384x256 ![0] bcast_S16384_S16384x256_0 (inTable i) j) _ _ = _
  rw [hb]
  show Host.gather gather_S8192x256_S16384x1_S16384x256_1_0_n_n_0_1_1256 e (wrapped i) j = _
  rw [gather_apply]
  refine congrArg (fun r : Fin 8192 => e (ix2 r (j 1))) (Fin.ext ?_)
  show min (wrapped i (ix2 (j 0) 0)).toInt.toNat 8191 = min (i (ix1 (j 0))).toNat 8191
  have hw : wrapped i (ix2 (j 0) 0) = i (ix1 (j 0)) := wrapped_apply i hi _
  rw [hw, toInt_small _ (hi _)]
  rfl

end Cert.Vq.Ref

end
-- ==== Proof.Vq.Match.lean ====
/-
  The kernel's three results are the reference's: the same positions, the same straight-through rows, and the same loss, whose
  total the kernel adds up block by block.
-/
module

public import proofs.«01_k».proof.Proof.Vq.KerRun
public import proofs.«01_k».proof.Proof.Vq.Argmin
public import proofs.«01_k».proof.Proof.Vq.Take

@[expose] public section

noncomputable section

namespace Cert.Vq.Both

open Cert.KernelIdeal Cert.KernelIdeal.Gen
open Idealize.ShloMosaic Idealize.ShloMosaic.TcCoe Idealize.ShloMosaic.ValueIdx Idealize.SL.Sem
open scoped BigOperators

variable (z : FVec Ideal S16x1024x256 .f32) (e : FVec Ideal S8192x256 .f32)

/-- Both programs find the same positions: they run the same host lines. -/
theorem codes_eq : Ker.codes z e = Ref.codes z e := by
  unfold Ker.codes Ref.codes Ker.argmin Ref.argmin Ker.dist Ref.dist Ker.seconds Ref.seconds
  rfl

/-- The kernel's positions lie in the table. -/
theorem codes_lt (j : S16384.Idx) : (Ker.codes z e j).toNat < 8192 :=
  (congrArg (fun f : IVec S16384 32 => (f j).toNat < 8192) (codes_eq z e)).mpr (Ref.codes_lt z e j)

/-- Reading an array in another shape and back is reading the array. -/
theorem there_and_back {s t : Shape} {α : Type} (x : s.Idx → α) (h : s.ShapeCasts t) (h' : t.ShapeCasts s) (j : s.Idx) :
    shapeCast t x h (Shape.reshapeEquiv h' j) = x j :=
  congrArg x (s.rowMajor.injective (Fin.ext ((Shape.rowMajor_reshapeEquiv h _).trans (Shape.rowMajor_reshapeEquiv h' j))))

/-- The rows of the input, read where entry `j` lies, are its entry `j`. -/
theorem rows_at (j : S16x1024x256.Idx) (h : S16384x256.ShapeCasts S16x1024x256) :
    Ker.rows z (Shape.reshapeEquiv h j) = z j := by
  unfold Ker.rows
  exact there_and_back z _ h j

/-- What the reference adds to entry `j` is the kernel's difference at the row and column where `j` lies. -/
theorem delta_at (j : S16x1024x256.Idx) (h : S16384x256.ShapeCasts S16x1024x256) :
    Ker.delta z e (Shape.reshapeEquiv h j 0) (Shape.reshapeEquiv h j 1)
      = Ref.picked e (Ker.codes z e) (Shape.reshapeEquiv h j) - z j := by
  unfold Ker.delta Ref.picked
  refine congrArg (fun t => _ - t) (Eq.trans ?_ (rows_at z j h))
  exact congrArg (Ker.rows z) (eq_ix2 (Shape.reshapeEquiv h j)).symm

/-- The straight-through rows agree. -/
theorem through_eq :
    shapeCast S16x1024x256 (Ker.outRows z e) shapeCasts_S16384x256_S16x1024x256
      = Ref.through z (Ref.picked e (Ker.codes z e)) := by
  funext j
  have h1 : Ker.rows z (ix2 (Shape.reshapeEquiv shapeCasts_S16384x256_S16x1024x256 j 0)
      (Shape.reshapeEquiv shapeCasts_S16384x256_S16x1024x256 j 1)) = z j :=
    (congrArg (Ker.rows z) (eq_ix2 _).symm).trans (rows_at z j _)
  exact congrArg₂ (fun a b : EReal => a + b) h1 (delta_at z e j _)

/-- A sum over all rows is the sum, block by block, over the rows of each block. -/
theorem sum_blocks (f : Fin 16384 → EReal) :
    ∑ p, f p = ∑ a : Fin 16, ∑ r : Fin 1024, f (Ker.place a.val a.isLt r) := by
  rw [← Fintype.sum_prod_type' (f := fun (a : Fin 16) (r : Fin 1024) => f (Ker.place a.val a.isLt r))]
  refine ((finProdFinEquiv (m := 16) (n := 1024)).sum_comp f).symm.trans (Finset.sum_congr rfl fun x _ => congrArg f ?_)
  refine Fin.ext ?_
  show x.2.val + 1024 * x.1.val = 1024 * x.1.val + x.2.val
  omega

/-- The kernel's total is the sum of all squared differences. -/
theorem total_blocks :
    ∑ n ∈ Finset.range 16, Ker.part z e n
      = ∑ p : Fin 16384, ∑ d : Fin 256, Ker.delta z e p d * Ker.delta z e p d := by
  rw [sum_blocks, Finset.sum_range]
  refine Finset.sum_congr rfl fun a _ => ?_
  unfold Ker.part
  exact dif_pos a.isLt

/-- The squared differences of the reference add up to the kernel's total. -/
theorem total_eq :
    ∑ i : S16x1024x256.Idx, (mulf (subf (Ref.slab (Ref.picked e (Ker.codes z e))) z)
        (subf (Ref.slab (Ref.picked e (Ker.codes z e))) z) : FVec Ideal S16x1024x256 .f32) i
      = ∑ n ∈ Finset.range 16, Ker.part z e n := by
  rw [total_blocks]
  have key : ∀ i : S16x1024x256.Idx,
      (mulf (subf (Ref.slab (Ref.picked e (Ker.codes z e))) z)
        (subf (Ref.slab (Ref.picked e (Ker.codes z e))) z) : FVec Ideal S16x1024x256 .f32) i
      = (fun p : S16384x256.Idx => Ker.delta z e (p 0) (p 1) * Ker.delta z e (p 0) (p 1))
          (Shape.reshapeEquiv shapeCasts_S16384x256_S16x1024x256 i) := fun i =>
    (congrArg₂ (fun a b : EReal => a * b) (delta_at z e i _) (delta_at z e i _)).symm
  refine (Finset.sum_congr rfl fun i _ => key i).trans ?_
  refine (Equiv.sum_comp (Shape.reshapeEquiv shapeCasts_S16384x256_S16x1024x256)
    (fun p : S16384x256.Idx => Ker.delta z e (p 0) (p 1) * Ker.delta z e (p 0) (p 1))).trans ?_
  exact sum_idx2 (fun p : S16384x256.Idx => Ker.delta z e (p 0) (p 1) * Ker.delta z e (p 0) (p 1))

/-- The losses agree. -/
theorem loss_eq : Ker.lossOf (Ker.outTotal z e) = Ref.loss z (Ref.picked e (Ker.codes z e)) := by
  have h : shapeCast S_ (Ker.outTotal z e) shapeCasts_S1x1_S_
      = Host.reduceAdd (mulf (subf (Ref.slab (Ref.picked e (Ker.codes z e))) z)
          (subf (Ref.slab (Ref.picked e (Ker.codes z e))) z)) (constant S_ .f32 0x00000000#32)
          Cert.ReferenceIdeal.Gen.reducesTo_S16x1024x256_S_d0_1_2 Cert.ReferenceIdeal.Gen.h_S_ := by
    funext j
    refine Eq.trans ?_ (hostReduceAdd_apply _ _ _ _ j).symm
    refine Eq.trans ?_ (Ideal.hostReduceAdd_total _ (fun b => b.elim0) _ _ j).symm
    refine Eq.trans ?_ (congrArg₂ (fun a b : EReal => a + b) Ideal.ofBits_zero_f32.symm (total_eq z e).symm)
    exact (zero_add _).symm
  exact congrArg (fun t => mulf (Host.divf t (constant S_ .f32 0x4A800000#32)) (constant S_ .f32 0x3E800000#32)) h

/-- The picked rows, with the kernel's positions, are what the reference takes. -/
theorem take_eq : Ref.take e (Ref.codes z e) = Ref.picked e (Ker.codes z e) :=
  (Ref.take_picked e (Ref.codes z e) (Ref.codes_lt z e)).trans (congrArg (Ref.picked e) (codes_eq z e).symm)

end Cert.Vq.Both

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Vq.RefRun
public import proofs.«01_k».proof.Proof.Vq.Match
public import Idealize.ShloMosaic.Adequacy
public import Idealize.ShloMosaic.Init

@[expose] public section

noncomputable section

namespace Cert.Proof

open Idealize.ShloMosaic Idealize.SL.Sem Cert.Kernel

/-- The reference ends with its inputs unchanged and every counter at zero. -/
theorem reference_quiet : Cert.quiescent_ReferenceIdeal (hReferenceIdeal := Cert.ReferenceIdeal.Gen.facts) :=
  fun m ρ _ => (θ_run _ _ _).mono (fun _ h => ⟨fun c => ⟨(h.1 c).2.2.2.1, (h.1 c).2.2.2.2⟩, h.2⟩)
    (Cert.Vq.Ref.run_main (F := Ideal) m ρ)

/-- Over the reals the kernel and the reference end with the same three results. -/
theorem same_results : Cert.algebraic_KernelIdeal_ReferenceIdeal (hKernelIdeal := Cert.KernelIdeal.Gen.facts)
    (hReferenceIdeal := Cert.ReferenceIdeal.Gen.facts) := by
  intro m g m' g' _ hin
  refine ⟨_, _, _, Cert.Vq.Ker.run_values m g (fun c => Cert.Vq.Both.codes_lt _ _), ?_⟩
  refine (θ_run _ _ _).mono (fun r h c => ?_) (Cert.Vq.Ref.run_main (F := Ideal) m' g')
  obtain ⟨h0, h1, h2, h3, h4⟩ := h.1 c
  obtain ⟨e0, e1⟩ := hin c
  rw [e0, e1] at h0 h1 h2
  refine ⟨h0.trans ?_, h1.trans ?_, h2.trans ?_, h3, h4⟩
  · exact (congrArg (Cert.Vq.Ref.through _) (Cert.Vq.Both.take_eq _ _)).trans (Cert.Vq.Both.through_eq _ _).symm
  · exact (congrArg (fun i => shapeCast Cert.KernelIdeal.S16x1024 i _) (Cert.Vq.Both.codes_eq _ _)).symm
  · exact (congrArg (Cert.Vq.Ref.loss _) (Cert.Vq.Both.take_eq _ _)).trans (Cert.Vq.Both.loss_eq _ _).symm

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiet, trivial,
  same_results⟩

end Cert.Proof

end
